-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S1x2048x1024 .f32) (main_arg1 : FVec F S3072x1024 .f32) (main_arg2 : FVec F S3072 .f32) (main_arg3 : FVec F S1024x1024 .f32) (main_arg4 : FVec F S1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S1x2048x1024 : Shape := ⟨3, ![1, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2048x1024 : Shape := ⟨2, ![2048, 1024]⟩
abbrev S3072x1 : Shape := ⟨2, ![3072, 1]⟩
abbrev S3072x2048 : Shape := ⟨2, ![3072, 2048]⟩
abbrev S1x16 : Shape := ⟨2, ![1, 16]⟩
abbrev S512x1024 : Shape := ⟨2, ![512, 1024]⟩
abbrev S512x1 : Shape := ⟨2, ![512, 1]⟩
abbrev S512x2048 : Shape := ⟨2, ![512, 2048]⟩
abbrev S512 : Shape := ⟨1, ![512]⟩
abbrev S512x16 : Shape := ⟨2, ![512, 16]⟩
abbrev S16x16 : Shape := ⟨2, ![16, 16]⟩
abbrev S16 : Shape := ⟨1, ![16]⟩
abbrev S1x1024 : Shape := ⟨2, ![1, 1024]⟩
abbrev S1x16x2048x2048 : Shape := ⟨4, ![1, 16, 2048, 2048]⟩
abbrev S64x1024 : Shape := ⟨2, ![64, 1024]⟩
abbrev S64x2048 : Shape := ⟨2, ![64, 2048]⟩
abbrev S1x1x1024x2048 : Shape := ⟨4, ![1, 1, 1024, 2048]⟩
abbrev S1x1 : Shape := ⟨2, ![1, 1]⟩
abbrev S1024x2048 : Shape := ⟨2, ![1024, 2048]⟩
abbrev S1024x1 : Shape := ⟨2, ![1024, 1]⟩
abbrev S1024x64 : Shape := ⟨2, ![1024, 64]⟩

abbrev nBuf : Space → Nat
  | .hbm => 15
  | .vmem => 22
  | .smem => 1
  | _ => 0

abbrev bufTy : (tb : Table) → Fin (tcTables nBuf tb) → BufTy
  | .hbm, ⟨0, _⟩ => ⟨S1x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2048x1024, .f32⟩
  | .hbm, ⟨6, _⟩ => ⟨S3072x1, .f32⟩
  | .hbm, ⟨7, _⟩ => ⟨S3072x2048, .f32⟩
  | .hbm, ⟨8, _⟩ => ⟨S1x16, .f32⟩
  | .hbm, ⟨9, _⟩ => ⟨S1x16, .i32⟩
  | .hbm, ⟨10, _⟩ => ⟨S1024x1024, .f32⟩
  | .hbm, ⟨11, _⟩ => ⟨S1x1024, .f32⟩
  | .hbm, ⟨12, _⟩ => ⟨S1x16x2048x2048, .f32⟩
  | .hbm, ⟨13, _⟩ => ⟨S2048x1024, .f32⟩
  | .hbm, ⟨14, _⟩ => ⟨S1x2048x1024, .f32⟩
  | .local _ .vmem, ⟨0, _⟩ => ⟨S512x1024, .f32⟩
  | .local _ .vmem, ⟨1, _⟩ => ⟨S512x1024, .f32⟩
  | .local _ .vmem, ⟨2, _⟩ => ⟨S2048x1024, .f32⟩
  | .local _ .vmem, ⟨3, _⟩ => ⟨S512x1, .f32⟩
  | .local _ .vmem, ⟨4, _⟩ => ⟨S512x1, .f32⟩
  | .local _ .vmem, ⟨5, _⟩ => ⟨S512x2048, .f32⟩
  | .local _ .vmem, ⟨6, _⟩ => ⟨S512x2048, .f32⟩
  | .local _ .vmem, ⟨7, _⟩ => ⟨S1x16, .f32⟩
  | .local _ .vmem, ⟨8, _⟩ => ⟨S1x16, .f32⟩
  | .local _ .vmem, ⟨9, _⟩ => ⟨S1x16, .i32⟩
  | .local _ .vmem, ⟨10, _⟩ => ⟨S64x1024, .f32⟩
  | .local _ .vmem, ⟨11, _⟩ => ⟨S64x1024, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x1024, .f32⟩
  | .local _ .vmem, ⟨17, _⟩ => ⟨S64x1024, .f32⟩
  | .local _ .vmem, ⟨18, _⟩ => ⟨S1x1024, .f32⟩
  | .local _ .vmem, ⟨19, _⟩ => ⟨S1x1x1024x2048, .f32⟩
  | .local _ .vmem, ⟨20, _⟩ => ⟨S1x1x1024x2048, .f32⟩
  | .local _ .vmem, ⟨21, _⟩ => ⟨S2048x1024, .f32⟩
  | .local _ .smem, ⟨0, _⟩ => ⟨S1x16, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg1_0 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc2_stg7_0 : Ref sig .tc := ⟨.vmem, 21, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem6_0 : DmaSem sig := 20
abbrev cc2_sem6_1 : DmaSem sig := 21
abbrev cc2_sem7_0 : DmaSem sig := 22

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 1 := Scalar.cmpi .slt v0 c1024_i32
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond3 (i : grid0.Coords) : BitVec 1 :=
  let arg0 : BitVec 32 := BitVec.ofNat 32 (i 0).val
  let c512_i32 : BitVec 32 := 512#32
  let v0 : BitVec 32 := Scalar.muli arg0 c512_i32
  let c1024_i32 : BitVec 32 := 1024#32
  let v1 : BitVec 1 := Scalar.cmpi .slt v0 c1024_i32
  let v8 : BitVec 32 := Scalar.extui v1
  let c0_i32_2 : BitVec 32 := 0#32
  let v9 : BitVec 1 := Scalar.cmpi .ne v8 c0_i32_2
  v9

def k0_cond2 (i : grid0.Coords) : BitVec 1 :=
  let arg0 : BitVec 32 := BitVec.ofNat 32 (i 0).val
  let c0_i32_0 : BitVec 32 := 0#32
  let v5 : BitVec 1 := Scalar.cmpi .eq arg0 c0_i32_0
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

abbrev stage1_0 : Fin 1 → Memref sig .tc .vmem S1x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x16 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![16, 2], ![false, false]⟩

def k2_off1 (i : grid2.Coords) : Fin 2 → Nat :=
  let c0 : Index := 0#32
  let arg0 : BitVec 32 := BitVec.ofNat 32 (i 0).val
  let v0 : Index := Scalar.indexCast arg0
  ![0, v0.toNat]
def k2_cond1 (i : grid2.Coords) : BitVec 1 :=
  let arg0 : BitVec 32 := BitVec.ofNat 32 (i 0).val
  let c0_i32_0 : BitVec 32 := 0#32
  let v4 : BitVec 1 := Scalar.cmpi .eq arg0 c0_i32_0
  let v5 : BitVec 32 := Scalar.extui v4
  let c0_i32_1 : BitVec 32 := 0#32
  let v6 : BitVec 1 := Scalar.cmpi .ne v5 c0_i32_1
  v6

def k2_off2 (i : grid2.Coords) : Fin 2 → Nat :=
  let arg1 : BitVec 32 := BitVec.ofNat 32 (i 1).val
  let c1024_i32 : BitVec 32 := 1024#32
  let v3 : BitVec 32 := Scalar.muli arg1 c1024_i32
  let v16 : Index := Scalar.indexCast v3
  let c0_6 : Index := 0#32
  ![v16.toNat, 0]
def k2_off3 (i : grid2.Coords) : Fin 2 → Nat :=
  let arg1 : BitVec 32 := BitVec.ofNat 32 (i 1).val
  let c1024_i32 : BitVec 32 := 1024#32
  let v3 : BitVec 32 := Scalar.muli arg1 c1024_i32
  let v37 : Index := Scalar.indexCast v3
  let c0_18 : Index := 0#32
  ![v37.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S1x16 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S64x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S64x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S64x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x1x1024x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 1 → Memref sig .tc .vmem S2048x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]
-- ==== ReferenceIdeal.lean ====
abbrev S1x2048x1024 : Shape := ⟨3, ![1, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S1x2048x3072 : Shape := ⟨3, ![1, 2048, 3072]⟩
abbrev S1x1x3072 : Shape := ⟨3, ![1, 1, 3072]⟩
abbrev S1x2048x3x16x64 : Shape := ⟨5, ![1, 2048, 3, 16, 64]⟩
abbrev S3x1x16x2048x64 : Shape := ⟨5, ![3, 1, 16, 2048, 64]⟩
abbrev S1x1x16x2048x64 : Shape := ⟨5, ![1, 1, 16, 2048, 64]⟩
abbrev S1x16x2048x64 : Shape := ⟨4, ![1, 16, 2048, 64]⟩
abbrev S_ : Shape := ⟨0, ![]⟩
abbrev S16 : Shape := ⟨1, ![16]⟩
abbrev S8 : Shape := ⟨1, ![8]⟩
abbrev S8x1 : Shape := ⟨2, ![8, 1]⟩
abbrev S1 : Shape := ⟨1, ![1]⟩
abbrev S1x1 : Shape := ⟨2, ![1, 1]⟩
abbrev S1x8x2048x64 : Shape := ⟨4, ![1, 8, 2048, 64]⟩
abbrev S1x8x64x2048 : Shape := ⟨4, ![1, 8, 64, 2048]⟩
abbrev S8x2048x64 : Shape := ⟨3, ![8, 2048, 64]⟩
abbrev S8x64x2048 : Shape := ⟨3, ![8, 64, 2048]⟩
abbrev S8x2048x2048 : Shape := ⟨3, ![8, 2048, 2048]⟩
abbrev S1x8x2048x2048 : Shape := ⟨4, ![1, 8, 2048, 2048]⟩
abbrev S1x8x2048 : Shape := ⟨3, ![1, 8, 2048]⟩
abbrev S1x8x2048x1 : Shape := ⟨4, ![1, 8, 2048, 1]⟩
abbrev S1x2048x16x64 : Shape := ⟨4, ![1, 2048, 16, 64]⟩
abbrev S1x1x1024 : Shape := ⟨3, ![1, 1, 1024]⟩
abbrev S1x16x2048x2048 : Shape := ⟨4, ![1, 16, 2048, 2048]⟩

abbrev nBuf : Space → Nat
  | .hbm => 151
  | .vmem => 0
  | .smem => 0
  | _ => 0

abbrev hbmTy0_0 (i : Nat) : BufTy := match i % 128 with
  | 0 => ⟨S1x2048x1024, .f32⟩
  | 1 => ⟨S3072x1024, .f32⟩
  | 2 => ⟨S3072, .f32⟩
  | 3 => ⟨S1024x1024, .f32⟩
  | 4 => ⟨S1024, .f32⟩
  | 5 => ⟨S1024x3072, .f32⟩
  | 6 => ⟨S1x2048x3072, .f32⟩
  | 7 => ⟨S1x1x3072, .f32⟩
  | 8 => ⟨S1x2048x3072, .f32⟩
  | 9 => ⟨S1x2048x3072, .f32⟩
  | 10 => ⟨S1x2048x3x16x64, .f32⟩
  | 11 => ⟨S3x1x16x2048x64, .f32⟩
  | 12 => ⟨S1x1x16x2048x64, .f32⟩
  | 13 => ⟨S1x16x2048x64, .f32⟩
  | 14 => ⟨S1x1x16x2048x64, .f32⟩
  | 15 => ⟨S1x16x2048x64, .f32⟩
  | 16 => ⟨S1x1x16x2048x64, .f32⟩
  | 17 => ⟨S1x16x2048x64, .f32⟩
  | 18 => ⟨S1x16x2048x64, .f32⟩
  | 19 => ⟨S_, .f32⟩
  | 20 => ⟨S16, .f32⟩
  | 21 => ⟨S_, .f32⟩
  | 22 => ⟨S16, .f32⟩
  | 23 => ⟨S16, .f32⟩
  | 24 => ⟨S8, .f32⟩
  | 25 => ⟨S8, .i32⟩
  | 26 => ⟨S8, .i32⟩
  | 27 => ⟨S_, .i32⟩
  | 28 => ⟨S8, .i32⟩
  | 29 => ⟨S8, .i1⟩
  | 30 => ⟨S_, .i32⟩
  | 31 => ⟨S8, .i32⟩
  | 32 => ⟨S8, .i32⟩
  | 33 => ⟨S8, .i32⟩
  | 34 => ⟨S8x1, .i32⟩
  | 35 => ⟨S1, .i32⟩
  | 36 => ⟨S_, .i32⟩
  | 37 => ⟨S8x1, .i32⟩
  | 38 => ⟨S8x1, .i1⟩
  | 39 => ⟨S1x1, .i32⟩
  | 40 => ⟨S8x1, .i32⟩
  | 41 => ⟨S8x1, .i1⟩
  | 42 => ⟨S8x1, .i1⟩
  | 43 => ⟨S_, .i1⟩
  | 44 => ⟨S8, .i1⟩
  | 45 => ⟨S1x8x2048x64, .f32⟩
  | 46 => ⟨S1x8x2048x64, .i1⟩
  | 47 => ⟨S_, .f32⟩
  | 48 => ⟨S1x8x2048x64, .f32⟩
  | 49 => ⟨S1x8x2048x64, .f32⟩
  | 50 => ⟨S_, .i32⟩
  | 51 => ⟨S8, .i32⟩
  | 52 => ⟨S8, .i1⟩
  | 53 => ⟨S_, .i32⟩
  | 54 => ⟨S8, .i32⟩
  | 55 => ⟨S8, .i32⟩
  | 56 => ⟨S8, .i32⟩
  | 57 => ⟨S8x1, .i32⟩
  | 58 => ⟨S1, .i32⟩
  | 59 => ⟨S_, .i32⟩
  | 60 => ⟨S8x1, .i32⟩
  | 61 => ⟨S8x1, .i1⟩
  | 62 => ⟨S1x1, .i32⟩
  | 63 => ⟨S8x1, .i32⟩
  | 64 => ⟨S8x1, .i1⟩
  | 65 => ⟨S8x1, .i1⟩
  | 66 => ⟨S_, .i1⟩
  | 67 => ⟨S8, .i1⟩
  | 68 => ⟨S1x8x2048x64, .f32⟩
  | 69 => ⟨S1x8x2048x64, .i1⟩
  | 70 => ⟨S_, .f32⟩
  | 71 => ⟨S1x8x2048x64, .f32⟩
  | 72 => ⟨S1x8x2048x64, .f32⟩
  | 73 => ⟨S_, .i32⟩
  | 74 => ⟨S8, .i32⟩
  | 75 => ⟨S8, .i1⟩
  | 76 => ⟨S_, .i32⟩
  | 77 => ⟨S8, .i32⟩
  | 78 => ⟨S8, .i32⟩
  | 79 => ⟨S8, .i32⟩
  | 80 => ⟨S8x1, .i32⟩
  | 81 => ⟨S1, .i32⟩
  | 82 => ⟨S_, .i32⟩
  | 83 => ⟨S8x1, .i32⟩
  | 84 => ⟨S8x1, .i1⟩
  | 85 => ⟨S1x1, .i32⟩
  | 86 => ⟨S8x1, .i32⟩
  | 87 => ⟨S8x1, .i1⟩
  | 88 => ⟨S8x1, .i1⟩
  | 89 => ⟨S_, .i1⟩
  | 90 => ⟨S8, .i1⟩
  | 91 => ⟨S1x8x2048x64, .f32⟩
  | 92 => ⟨S1x8x2048x64, .i1⟩
  | 93 => ⟨S_, .f32⟩
  | 94 => ⟨S1x8x2048x64, .f32⟩
  | 95 => ⟨S1x8x2048x64, .f32⟩
  | 96 => ⟨S1x8x64x2048, .f32⟩
  | 97 => ⟨S8x2048x64, .f32⟩
  | 98 => ⟨S8x64x2048, .f32⟩
  | 99 => ⟨S8x2048x2048, .f32⟩
  | 100 => ⟨S1x8x2048x2048, .f32⟩
  | 101 => ⟨S_, .f32⟩
  | 102 => ⟨S1x8x2048x2048, .f32⟩
  | 103 => ⟨S1x8x2048x2048, .f32⟩
  | 104 => ⟨S_, .f32⟩
  | 105 => ⟨S1x8x2048, .f32⟩
  | 106 => ⟨S_, .f32⟩
  | 107 => ⟨S1x8x2048, .f32⟩
  | 108 => ⟨S1x8x2048, .f32⟩
  | 109 => ⟨S1x8x2048x1, .f32⟩
  | 110 => ⟨S1x8x2048x2048, .f32⟩
  | 111 => ⟨S1x8x2048x2048, .f32⟩
  | 112 => ⟨S1x8x2048x2048, .f32⟩
  | 113 => ⟨S_, .f32⟩
  | 114 => ⟨S1x8x2048, .f32⟩
  | 115 => ⟨S1x8x2048x1, .f32⟩
  | 116 => ⟨S1x8x2048x2048, .f32⟩
  | 117 => ⟨S1x8x2048x2048, .f32⟩
  | 118 => ⟨S8x2048x2048, .f32⟩
  | 119 => ⟨S8x2048x64, .f32⟩
  | 120 => ⟨S8x2048x64, .f32⟩
  | 121 => ⟨S1x8x2048x64, .f32⟩
  | 122 => ⟨S_, .f32⟩
  | 123 => ⟨S1x16x2048x64, .f32⟩
  | 124 => ⟨S_, .i32⟩
  | 125 => ⟨S8, .i32⟩
  | 126 => ⟨S8, .i1⟩
  | 127 => ⟨S_, .i32⟩
  | _ => ⟨S1x2048x1024, .f32⟩

abbrev hbmTy0_1 (i : Nat) : BufTy := match i % 128 with
  | 0 => ⟨S8, .i32⟩
  | 1 => ⟨S8, .i32⟩
  | 2 => ⟨S8, .i32⟩
  | 3 => ⟨S8x1, .i32⟩
  | 4 => ⟨S1x16x2048x64, .f32⟩
  | 5 => ⟨S1x2048x16x64, .f32⟩
  | 6 => ⟨S1x2048x1024, .f32⟩
  | 7 => ⟨S1024x1024, .f32⟩
  | 8 => ⟨S1x2048x1024, .f32⟩
  | 9 => ⟨S1x1x1024, .f32⟩
  | 10 => ⟨S1x2048x1024, .f32⟩
  | 11 => ⟨S1x2048x1024, .f32⟩
  | 12 => ⟨S_, .f32⟩
  | 13 => ⟨S1x16x2048x2048, .f32⟩
  | 14 => ⟨S_, .i32⟩
  | 15 => ⟨S8, .i32⟩
  | 16 => ⟨S8, .i1⟩
  | 17 => ⟨S_, .i32⟩
  | 18 => ⟨S8, .i32⟩
  | 19 => ⟨S8, .i32⟩
  | 20 => ⟨S8, .i32⟩
  | 21 => ⟨S8x1, .i32⟩
  | 22 => ⟨S1x16x2048x2048, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_values : Ref sig .tc := ⟨.hbm, 24, rfl⟩
abbrev main_indices : Ref sig .tc := ⟨.hbm, 25, rfl⟩
abbrev main_v17 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v18 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v19 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_call3_cst : Ref sig .tc := ⟨.hbm, 93, rfl⟩
abbrev main_call3_v15 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_cst_1 : Ref sig .tc := ⟨.hbm, 101, rfl⟩
abbrev main_v26 : Ref sig .tc := ⟨.hbm, 102, rfl⟩
abbrev main_v27 : Ref sig .tc := ⟨.hbm, 103, rfl⟩
abbrev main_cst_2 : Ref sig .tc := ⟨.hbm, 104, rfl⟩
abbrev main_v28 : Ref sig .tc := ⟨.hbm, 105, rfl⟩
abbrev main_cst_3 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_cst_4 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_cst_5 : Ref sig .tc := ⟨.hbm, 122, rfl⟩
abbrev main_v43 : Ref sig .tc := ⟨.hbm, 123, rfl⟩
abbrev main_c : Ref sig .tc := ⟨.hbm, 124, rfl⟩
abbrev main_v44 : Ref sig .tc := ⟨.hbm, 125, rfl⟩
abbrev main_v45 : Ref sig .tc := ⟨.hbm, 126, rfl⟩
abbrev main_c_6 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_cst_7 : Ref sig .tc := ⟨.hbm, 140, rfl⟩
abbrev main_v58 : Ref sig .tc := ⟨.hbm, 141, rfl⟩
abbrev main_c_8 : Ref sig .tc := ⟨.hbm, 142, rfl⟩
abbrev main_v59 : Ref sig .tc := ⟨.hbm, 143, rfl⟩
abbrev main_v60 : Ref sig .tc := ⟨.hbm, 144, rfl⟩
abbrev main_c_9 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩

abbrev nD : Nat := 1
abbrev τ : Topo := Topo.v7x

variable {F : FTy → Type} [FloatOps F]
-- ==== Proof.Same.lean ====
/- The program as compiled and the program printed for exact arithmetic are one text: no operation
   was rewritten between them. Their kernels, tables and main functions are equal at every float
   instance, so a run proved of one is a run of the other. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem

variable (F : FTy → Type) [FloatOps F]

set_option maxHeartbeats 4000000 in
/-- The attention kernel is the same function in both programs. -/
theorem attn_same :
    Cert.Kernel.cc2__attn_kernel (F := F) = Cert.KernelIdeal.cc2__attn_kernel (F := F) := rfl

set_option maxHeartbeats 4000000 in
/-- The main functions are the same. -/
theorem main_same : Cert.Kernel.main (F := F) = Cert.KernelIdeal.main (F := F) := rfl

set_option maxHeartbeats 2000000 in
/-- The tables of kernel bodies are the same, row by row. -/
theorem bodies_same : Cert.Kernel.defs₀ (F := F) = Cert.KernelIdeal.defs₀ (F := F) := by
  refine congrArg (Defs.onTc (nD := Cert.Kernel.nD) (τ := Cert.Kernel.τ) (sig := Cert.Kernel.sig)
    (Val := Elt F) (Λ := Cert.Kernel.Λ₀)) ?_
  funext l a
  match l, a with
  | ⟨0, _⟩, (t, s) => rfl
  | ⟨1, _⟩, (t, s) => rfl
  | ⟨2, _⟩, (t, s) =>
    show Cert.Kernel.cc2__attn_kernel _ _ _ _ _ _ _ _ _ _ _ _ _ _ _ _ _ = _
    rw [attn_same]
    rfl

set_option maxHeartbeats 2000000 in
/-- The tables of all bodies and pipelines are the same. -/
theorem defs_same : Cert.Kernel.defs (F := F) = Cert.KernelIdeal.defs (F := F) :=
  congrArg (Pipeline.defs (Cert.Kernel.pcfgs (F := F))) (bodies_same F)

end Cert.Proof.Same

end
-- ==== Proof.Run0.lean ====
/- The first launch's body (the projection to queries, keys and values, and the head scores), run on whole staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle that is the whole of a score row, and of a block of projections. -/
abbrev rScore : Rect S1x16 := Rect.unit (s := S1x16) ![0, 0] S1x16.size inb_S1x16_S1x16_0_0

/-- The query blocks' scores added to the scores `s` found there. -/
def scoreStep (i : grid0.Coords) (x0 : Vec F S512x1024 .f32) (x1 : Vec F S2048x1024 .f32) (x2 : Vec F S512x1 .f32)
    (s : Vec F S1x16 .f32) : Vec F S1x16 .f32 :=
  k0_pay3 (k0_pay5 x0 x1 x2) (k0_pay6 (BitVec.ofNat 32 (i 0).val)) (iota .tc S512x16 32 [1] iota_S512x16_d1_w32) s

/-- A payload of the three staged blocks, each loaded whole, is the payload of what the views read. -/
theorem pay_congr {α : Type} (p : Vec F S512x1024 .f32 → Vec F S2048x1024 .f32 → Vec F S512x1 .f32 → α)
    (v1 : View sig .tc .vmem S512x1024 .f32) (v2 : View sig .tc .vmem S2048x1024 .f32) (v3 : View sig .tc .vmem S512x1 .f32)
    (f0 : v1.ty.Contents (Elt F)) (f1 : v2.ty.Contents (Elt F)) (f2 : v3.ty.Contents (Elt F)) :
    p (v1.readAt (Elt F) (Rect.unit (s := S512x1024) ![0, 0] S512x1024.size inb_S512x1024_S512x1024_0_0).toLoadRect f0)
        (v2.readAt (Elt F) (Rect.unit (s := S2048x1024) ![0, 0] S2048x1024.size inb_S2048x1024_S2048x1024_0_0).toLoadRect f1)
        (v3.readAt (Elt F) (Rect.unit (s := S512x1) ![0, 0] S512x1.size inb_S512x1_S512x1_0_0).toLoadRect f2)
      = p (v1.read (Elt F) f0) (v2.read (Elt F) f1) (v3.read (Elt F) f2) := by
  rw [show v1.readAt (Elt F) (Rect.unit (s := S512x1024) ![0, 0] S512x1024.size inb_S512x1024_S512x1024_0_0).toLoadRect f0 = v1.read (Elt F) f0 from View.readAt_full v1 f0 _,
    show v2.readAt (Elt F) (Rect.unit (s := S2048x1024) ![0, 0] S2048x1024.size inb_S2048x1024_S2048x1024_0_0).toLoadRect f1 = v2.read (Elt F) f1 from View.readAt_full v2 f1 _,
    show v3.readAt (Elt F) (Rect.unit (s := S512x1) ![0, 0] S512x1.size inb_S512x1_S512x1_0_0).toLoadRect f2 = v3.read (Elt F) f2 from View.readAt_full v3 f2 _]

set_option maxHeartbeats 1000000 in
/-- The body on a block of key or value rows: it stores the block's projection, and leaves the scores. -/
theorem run_kv (c : Dev nD) (i : grid0.Coords) (arg1 : Memref sig .tc .vmem S512x1024 .f32) (harg1 : arg1.IsWhole) (arg2 : Memref sig .tc .vmem S2048x1024 .f32) (harg2 : arg2.IsWhole) (arg3 : Memref sig .tc .vmem S512x1 .f32) (harg3 : arg3.IsWhole) (arg4 : Memref sig .tc .vmem S512x2048 .f32) (harg4 : arg4.IsWhole) (arg5 : Memref sig .tc .vmem S1x16 .f32) (harg5 : arg5.IsWhole)
    (hc0 : k0_cond1 i = 1#1) (hc1 : ¬ k0_cond2 i = 1#1) (hc2 : ¬ k0_cond3 i = 1#1)
    (x0 : Vec F S512x1024 .f32) (x1 : Vec F S2048x1024 .f32) (x2 : Vec F S512x1 .f32) (s : Vec F S1x16 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare s
            ∗ (iprop(owns (c : Thread nD τ) arg1 fullShare x0 ∗ owns (c : Thread nD τ) arg2 fullShare x1 ∗ owns (c : Thread nD τ) arg3 fullShare x2 ∗ owns (c : Thread nD τ) arg4 fullShare (k0_pay1 x0 x1 x2) ∗ owns (c : Thread nD τ) arg5 fullShare s) -∗ K ⟨⟩))
          ⊢ wp frame (wpE (defs₀ (F := F)) Variants.none c none) E (cc0__qkv_kernel i arg1 harg1 arg2 harg2 arg3 harg3 arg4 harg4 arg5 harg5) K := by
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, Hk⟩
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap; · iexact H3
      ipureintro
      subst hf0 hf1 hf2
      exact (View.read_writes_full arg4.view f3 inb_S512x2048_S512x2048_0_0 _ []).trans (pay_congr k0_pay1 arg1.view arg2.view arg3.view f0 f1 f2)
    iexists _; isplitr; · ipureintro; exact hf4
    iexact H4

set_option maxHeartbeats 1000000 in
/-- The body on a later block of query rows: it stores the block's projection and adds its scores. -/
theorem run_q (c : Dev nD) (i : grid0.Coords) (arg1 : Memref sig .tc .vmem S512x1024 .f32) (harg1 : arg1.IsWhole) (arg2 : Memref sig .tc .vmem S2048x1024 .f32) (harg2 : arg2.IsWhole) (arg3 : Memref sig .tc .vmem S512x1 .f32) (harg3 : arg3.IsWhole) (arg4 : Memref sig .tc .vmem S512x2048 .f32) (harg4 : arg4.IsWhole) (arg5 : Memref sig .tc .vmem S1x16 .f32) (harg5 : arg5.IsWhole)
    (hc0 : ¬ k0_cond1 i = 1#1) (hc1 : ¬ k0_cond2 i = 1#1) (hc2 : k0_cond3 i = 1#1)
    (x0 : Vec F S512x1024 .f32) (x1 : Vec F S2048x1024 .f32) (x2 : Vec F S512x1 .f32) (s : Vec F S1x16 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare s
            ∗ (iprop(owns (c : Thread nD τ) arg1 fullShare x0 ∗ owns (c : Thread nD τ) arg2 fullShare x1 ∗ owns (c : Thread nD τ) arg3 fullShare x2 ∗ owns (c : Thread nD τ) arg4 fullShare (k0_pay4 x0 x1 x2) ∗ owns (c : Thread nD τ) arg5 fullShare (scoreStep i x0 x1 x2 s)) -∗ K ⟨⟩))
          ⊢ wp frame (wpE (defs₀ (F := F)) Variants.none c none) E (cc0__qkv_kernel i arg1 harg1 arg2 harg2 arg3 harg3 arg4 harg4 arg5 harg5) K := by
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, Hk⟩
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap; · iexact H3
      ipureintro
      subst hf0 hf1 hf2
      exact (View.read_writes_full arg4.view f3 inb_S512x2048_S512x2048_0_0 _ []).trans (pay_congr k0_pay4 arg1.view arg2.view arg3.view f0 f1 f2)
    iexists _; isplitr; swap; · iexact H4
    ipureintro
    subst hf0 hf1 hf2 hf4
    refine (View.read_writes_full arg5.view f4 inb_S1x16_S1x16_0_0 _ _).trans ?_
    unfold scoreStep
    rw [show arg5.view.readAt (Elt F) (Rect.unit (s := S1x16) ![0, 0] S1x16.size inb_S1x16_S1x16_0_0).toLoadRect f4 = arg5.view.read (Elt F) f4 from View.readAt_full arg5.view f4 _]
    exact congrArg (fun w => k0_pay3 w (k0_pay6 (BitVec.ofNat 32 (i 0).val)) (iota .tc S512x16 32 [1] iota_S512x16_d1_w32) _) (pay_congr k0_pay5 arg1.view arg2.view arg3.view f0 f1 f2)

set_option maxHeartbeats 1000000 in
/-- The body on the first block of query rows: it stores the block's projection, and the scores are the block's. -/
theorem run_q0 (c : Dev nD) (i : grid0.Coords) (arg1 : Memref sig .tc .vmem S512x1024 .f32) (harg1 : arg1.IsWhole) (arg2 : Memref sig .tc .vmem S2048x1024 .f32) (harg2 : arg2.IsWhole) (arg3 : Memref sig .tc .vmem S512x1 .f32) (harg3 : arg3.IsWhole) (arg4 : Memref sig .tc .vmem S512x2048 .f32) (harg4 : arg4.IsWhole) (arg5 : Memref sig .tc .vmem S1x16 .f32) (harg5 : arg5.IsWhole)
    (hc0 : ¬ k0_cond1 i = 1#1) (hc1 : k0_cond2 i = 1#1) (hc2 : k0_cond3 i = 1#1)
    (x0 : Vec F S512x1024 .f32) (x1 : Vec F S2048x1024 .f32) (x2 : Vec F S512x1 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare (k0_pay4 x0 x1 x2) ∗ owns (c : Thread nD τ) arg5 fullShare (scoreStep i x0 x1 x2 k0_pay2)) -∗ K ⟨⟩))
          ⊢ wp frame (wpE (defs₀ (F := F)) Variants.none c none) E (cc0__qkv_kernel i arg1 harg1 arg2 harg2 arg3 harg3 arg4 harg4 arg5 harg5) K := by
    simp only [cc0__qkv_kernel_eq_skeleton]; unfold cc0__qkv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    sl_exec (disch := first | sl_exact hc0 | sl_exact hc1 | sl_exact hc2)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap; · iexact H3
      ipureintro
      subst hf0 hf1 hf2
      exact (View.read_writes_full arg4.view f3 inb_S512x2048_S512x2048_0_0 _ []).trans (pay_congr k0_pay4 arg1.view arg2.view arg3.view f0 f1 f2)
    iexists _; isplitr; swap; · iexact H4
    ipureintro
    subst hf0 hf1 hf2
    refine (View.read_writes_full arg5.view f4 inb_S1x16_S1x16_0_0 _ _).trans ?_
    unfold scoreStep
    refine (congrArg (fun w : Vec F S1x16 .f32 => k0_pay3 _ _ _ w) (View.readCov_full arg5.view inb_S1x16_S1x16_0_0 inb_S1x16_S1x16_0_0 k0_pay2 [])).trans ?_
    exact congrArg (fun w => k0_pay3 w (k0_pay6 (BitVec.ofNat 32 (i 0).val)) (iota .tc S512x16 32 [1] iota_S512x16_d1_w32) k0_pay2) (pay_congr k0_pay5 arg1.view arg2.view arg3.view f0 f1 f2)

end Cert.Proof.Qkv
-- ==== Proof.Reg0.lean ====
/- The first launch (the projection to queries, keys and values, and the head scores): what every window holds at every point, and the body's triple at a generic point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Run0
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What every window holds -/

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The second point of the grid. -/
abbrev t0_1 : Fin cfg0.N := ⟨1, by show 1 < grid0.N; rw [N_0]; decide⟩

/-- The block of projections the body stores at point `t`. -/
def rows0 (c : Dev nD) (t : Fin cfg0.N) : Vec F S512x2048 .f32 :=
  if t.val < 2 then k0_pay4 (blk0 V c 0 t) (blk0 V c 1 t) (blk0 V c 2 t) else k0_pay1 (blk0 V c 0 t) (blk0 V c 1 t) (blk0 V c 2 t)

/-- The scores the body leaves at the first point, and at every later one. -/
def score0 (c : Dev nD) : Vec F S1x16 .f32 := scoreStep (grid0.coords t0_0) (blk0 V c 0 t0_0) (blk0 V c 1 t0_0) (blk0 V c 2 t0_0) k0_pay2
def score1 (c : Dev nD) : Vec F S1x16 .f32 := scoreStep (grid0.coords t0_1) (blk0 V c 0 t0_1) (blk0 V c 1 t0_1) (blk0 V c 2 t0_1) (score0 V c)
def scores (c : Dev nD) (t : Fin cfg0.N) : Vec F S1x16 .f32 := if t.val = 0 then score0 V c else score1 V c

/-- The first launch's proof data. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => rows0 V c t
    | ⟨4, _⟩ => scores V c t
  Φ _ := Pipeline.ΦA spec0 c
  q _ := fullShare
  owed _ := 0

theorem A0_eq (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = rows0 V c t := by dsimp only [dat0]
theorem after0_4 (c : Dev nD) (t : Fin cfg0.N) : (dat0 V c).after 4 t = scores V c t := by dsimp only [dat0]

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)

/-! ## The branch conditions and the idle points, over the grid -/

theorem cond0_1 : ∀ t : Fin cfg0.N, k0_cond1 (grid0.coords t) = 1#1 ↔ 2 ≤ t.val :=
  (by decide +kernel : ∀ t : Fin grid0.N, k0_cond1 (grid0.coords t) = 1#1 ↔ 2 ≤ t.val)
theorem cond0_2 : ∀ t : Fin cfg0.N, k0_cond2 (grid0.coords t) = 1#1 ↔ t.val = 0 :=
  (by decide +kernel : ∀ t : Fin grid0.N, k0_cond2 (grid0.coords t) = 1#1 ↔ t.val = 0)
theorem cond0_3 : ∀ t : Fin cfg0.N, k0_cond3 (grid0.coords t) = 1#1 ↔ t.val < 2 :=
  (by decide +kernel : ∀ t : Fin grid0.N, k0_cond3 (grid0.coords t) = 1#1 ↔ t.val < 2)
theorem idle0_3 : ∀ t : Fin cfg0.N, cfg0.idle 3 (cfg0.grid.coords t) = false :=
  (by decide +kernel : ∀ t : Fin grid0.N, idle0 3 (grid0.coords t) = false)
theorem idle0_4 : ∀ t : Fin cfg0.N, cfg0.idle 4 (cfg0.grid.coords t) = decide (2 ≤ t.val) :=
  (by decide +kernel : ∀ t : Fin grid0.N, idle0 4 (grid0.coords t) = decide (2 ≤ t.val))

/-- After the first point the scores' buffer holds what the point before left. -/
theorem before0_4 (c : Dev nD) (n : ℕ) : ∀ (h : n + 1 < cfg0.N) (d), (dat0 V c).before 4 ⟨n + 1, h⟩ d = scores V c ⟨n, by omega⟩ := by
  have hN : cfg0.N = 6 := N_0
  have step : ∀ (n : ℕ) (h : n + 1 < cfg0.N) (d), (dat0 V c).before 4 ⟨n + 1, h⟩ d = (dat0 V c).left 4 ⟨n, by omega⟩ d := fun n h d => by
    rw [(dat0 V c).before_of_pos 4 ⟨n + 1, h⟩ (by simp) rfl d, if_neg]
    · rfl
    · intro hf
      have := (flush0_4 _).mp hf
      simp only [Nat.add_sub_cancel] at this
      omega
  induction n with
  | zero =>
    intro h d
    rw [step]; unfold Dat.left
    rw [show cfg0.idle 4 (cfg0.grid.coords ⟨0, _⟩) = false from idle0_4 _]
    exact after0_4 V c _
  | succ n ih =>
    intro h d
    rw [step]; unfold Dat.left
    by_cases hn : n = 0
    · subst hn
      rw [show cfg0.idle 4 (cfg0.grid.coords ⟨0 + 1, _⟩) = false from idle0_4 _]
      exact after0_4 V c _
    · rw [show cfg0.idle 4 (cfg0.grid.coords ⟨n + 1, _⟩) = true from (idle0_4 _).trans (decide_eq_true (by show 2 ≤ n + 1; omega))]
      dsimp only
      rw [ih (by omega) d]
      unfold scores
      rw [if_neg hn, if_neg (by simp)]

/-! ## The body's triple -/

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

theorem leaves0_0 (c : Dev nD) (t : Fin cfg0.N) : (dat0 V c).leavesExact 0 t = owns (c : Thread nD τ) (st0_0 t) fullShare (blk0 V c 0 t) := by
  rw [← after0_0]
theorem leaves0_1 (c : Dev nD) (t : Fin cfg0.N) : (dat0 V c).leavesExact 1 t = owns (c : Thread nD τ) (st0_1 t) fullShare (blk0 V c 1 t) := by
  rw [← after0_1]
theorem leaves0_2 (c : Dev nD) (t : Fin cfg0.N) : (dat0 V c).leavesExact 2 t = owns (c : Thread nD τ) (st0_2 t) fullShare (blk0 V c 2 t) := by
  rw [← after0_2]
theorem leaves0_3 (c : Dev nD) (t : Fin cfg0.N) : (dat0 V c).leavesExact 3 t = owns (c : Thread nD τ) (st0_3 t) fullShare (rows0 V c t) := by
  rw [← after0_3]; unfold Dat.leavesExact; rw [idle0_3 t]
theorem leaves0_4 (c : Dev nD) (t : Fin cfg0.N) (h : t.val < 2) : (dat0 V c).leavesExact 4 t = owns (c : Thread nD τ) (st0_4 t) fullShare (scores V c t) := by
  rw [← after0_4]; unfold Dat.leavesExact; rw [(idle0_4 t).trans (decide_eq_false (by omega))]
/-- The scores as they are meet what is asked of them at a point that leaves them. -/
theorem leaves0_4_late (c : Dev nD) (t : Fin cfg0.N) (h : 2 ≤ t.val) :
    owns (c : Thread nD τ) (st0_4 t) fullShare (scores V c t) ⊢ (dat0 V c).leavesExact 4 t := by
  by_cases h5 : t.val % 6 = 5
  · unfold Dat.leavesExact
    rw [(idle0_4 t).trans (decide_eq_true h), (flush0_4 t).mpr h5]
    exact .of_eq (by rw [after0_4])
  · rw [(dat0 V c).leavesExact_idle 4 t ((idle0_4 t).trans (decide_eq_true h)) (Bool.eq_false_iff.mpr fun hf => h5 ((flush0_4 t).mp hf))]
    obtain ⟨n, hn⟩ := t
    obtain ⟨n, rfl⟩ : ∃ k, n = k + 1 := ⟨n - 1, by have : 2 ≤ n := h; omega⟩
    iintro H
    iexists (fun _ => Classical.arbitrary _)
    rw [before0_4 V c n hn]
    rw [show scores V c ⟨n, by omega⟩ = scores V c ⟨n + 1, hn⟩ from by
      unfold scores; rw [if_neg (by have : 2 ≤ n + 1 := h; show ¬ n = 0; omega), if_neg (by simp)]]
    iexact H

set_option maxHeartbeats 1200000 in
/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.succ = (dat0 V c).Φ t.castSucc from rfl,
    show (dat0 V c).owesAt () t.succ = (dat0 V c).owesAt () t.castSucc from rfl,
    leaves0_0, leaves0_1, leaves0_2, leaves0_3]
  by_cases h2 : 2 ≤ t.val
  · have hb : ∀ d, (dat0 V c).before 4 t d = scores V c t := fun d => by
      obtain ⟨n, hn⟩ := t
      obtain ⟨n, rfl⟩ : ∃ k, n = k + 1 := ⟨n - 1, by have : 2 ≤ n := h2; omega⟩
      rw [before0_4 V c n hn]
      unfold scores; rw [if_neg (by have : 2 ≤ n + 1 := h2; show ¬ n = 0; omega), if_neg (by simp)]
    rw [show rows0 V c t = k0_pay1 (blk0 V c 0 t) (blk0 V c 1 t) (blk0 V c 2 t) from if_neg (by omega)]
    simp only [hb]
    iintro ⟨HΦ, Ho, ⟨%d0, H0⟩, ⟨%d1, H1⟩, ⟨%d2, H2⟩, ⟨%d3, H3⟩, ⟨%d4, H4⟩⟩
    iapply (run_kv c (grid0.coords t) _ _ _ _ _ _ _ _ _ _ ((cond0_1 t).mpr h2) (fun h => by have := (cond0_2 t).mp h; omega) (fun h => by have := (cond0_3 t).mp h; omega)
      (blk0 V c 0 t) (blk0 V c 1 t) (blk0 V c 2 t) (scores V c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves0_4_late V c t h2)
    iexact H4
  · rw [leaves0_4 V c t (by omega), show rows0 V c t = k0_pay4 (blk0 V c 0 t) (blk0 V c 1 t) (blk0 V c 2 t) from if_pos (by omega)]
    by_cases h0 : t.val = 0
    · obtain rfl : t = t0_0 := Fin.ext h0
      rw [show scores V c t0_0 = score0 V c from if_pos rfl]
      iintro ⟨HΦ, Ho, ⟨%d0, H0⟩, ⟨%d1, H1⟩, ⟨%d2, H2⟩, ⟨%d3, H3⟩, ⟨%d4, H4⟩⟩
      iapply (run_q0 c (grid0.coords t0_0) _ _ _ _ _ _ _ _ _ _ (fun h => h2 ((cond0_1 _).mp h)) ((cond0_2 _).mpr rfl) ((cond0_3 _).mpr (by omega))
        (blk0 V c 0 t0_0) (blk0 V c 1 t0_0) (blk0 V c 2 t0_0) Set.univ _)
      isplitl [H0]; · iexact H0
      isplitl [H1]; · iexact H1
      isplitl [H2]; · iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · obtain rfl : t = t0_1 := Fin.ext (show t.val = 1 by omega)
      have hb : ∀ d, (dat0 V c).before 4 t0_1 d = score0 V c := fun d => by
        rw [before0_4 V c 0 t0_1.isLt]; exact if_pos rfl
      rw [show scores V c t0_1 = score1 V c from if_neg (by decide)]
      simp only [hb]
      iintro ⟨HΦ, Ho, ⟨%d0, H0⟩, ⟨%d1, H1⟩, ⟨%d2, H2⟩, ⟨%d3, H3⟩, ⟨%d4, H4⟩⟩
      iapply (run_q c (grid0.coords t0_1) _ _ _ _ _ _ _ _ _ _ (fun h => h2 ((cond0_1 _).mp h)) (fun h => h0 ((cond0_2 _).mp h)) ((cond0_3 _).mpr (by omega))
        (blk0 V c 0 t0_1) (blk0 V c 1 t0_1) (blk0 V c 2 t0_1) (score0 V c) Set.univ _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4

/-- The body table's row at point `t`'s slots. -/
theorem row0 (t : Fin cfg0.N) : defs₀ (F := F) .tc cfg0.body (cfg0.bodyArgs t (cfg0.slots t)) = bodyAt0 t := by
  unfold defs₀; rw [Defs.onTc_tc]

/-- The library's body obligation. -/
theorem body0 (c : Dev nD) : BodyObligation (dat0 (F := F) V c) (defs₀ (F := F)) Variants.none () Set.univ := fun t => by
  rw [bigSep_W0, bigSep_W0, row0]
  exact triple_restated (sound0 V c t) rfl .rfl fun _ => .rfl

end Cert.Proof.Qkv
-- ==== Proof.Reg1.lean ====
/- The second launch (the choice of the heads): its body run, what its windows hold, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body: the mask of the chosen heads, of the scores it loads. -/
theorem run_mask (c : Dev nD) (arg0 : Memref sig .tc .vmem S1x16 .f32) (harg0 : arg0.IsWhole) (arg1 : Memref sig .tc .vmem S1x16 .i32) (harg1 : arg1.IsWhole)
    (x0 : Vec F S1x16 .f32) (E : Set ℕ) (K : PUnit → sProp 𝕄) :
        iprop(owns (c : Thread nD τ) arg0 fullShare x0 ∗ (∃ d, owns (c : Thread nD τ) arg1 fullShare d)
            ∗ (iprop(owns (c : Thread nD τ) arg0 fullShare x0 ∗ owns (c : Thread nD τ) arg1 fullShare (k1_pay1 x0)) -∗ K ⟨⟩))
          ⊢ wp frame (wpE (defs₀ (F := F)) Variants.none c none) E (cc1__route_kernel arg0 harg0 arg1 harg1) K := by
    simp only [cc1__route_kernel_eq_skeleton]; unfold cc1__route_kernel_skel
    unfold owns
    iintro ⟨⟨%f0, %hf0, H0⟩, ⟨%d1, %f1, -, H1⟩, Hk⟩
    sl_exec
    sl_step
    iapply Hk
    isplitl [H0]
    · iexists _; isplitr; · ipureintro; exact hf0
      iexact H0
    iexists _; isplitr; swap; · iexact H1
    ipureintro
    subst hf0
    refine (View.read_writes_full arg1.view f1 inb_S1x16_S1x16_0_0 _ []).trans ?_
    exact congrArg k1_pay1 (View.readAt_full arg0.view f0 inb_S1x16_S1x16_0_0)

/-! ## What the windows hold -/

variable (V : (c : Dev nD) → (b : Ref sig .tc) → Buf (Elt F) ((c : Thread nD τ).loc b))

/-- Window `w`'s block, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second launch's proof data. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => k1_pay1 (blk1 V c 0 t)
  Φ _ := Pipeline.ΦA spec1 c
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = k1_pay1 (blk1 V c 0 t) := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)

/-! ## The body's triple -/

/-- What the body is called with, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def post1 (c : Dev nD) (t : Fin cfg1.N) : sProp 𝕄 :=
  iprop((dat1 V c).Φ t.succ ∗ (dat1 V c).owesAt () t.succ ∗ (dat1 V c).leavesExact 0 t ∗ (dat1 V c).leavesExact 1 t)

theorem leaves1_0 (c : Dev nD) (t : Fin cfg1.N) : (dat1 V c).leavesExact 0 t = owns (c : Thread nD τ) (st1_0 t) fullShare (blk1 V c 0 t) := by
  rw [← after1_0]
theorem leaves1_1 (c : Dev nD) (t : Fin cfg1.N) : (dat1 V c).leavesExact 1 t = owns (c : Thread nD τ) (st1_1 t) fullShare (k1_pay1 (blk1 V c 0 t)) := by
  rw [← after1_1]

set_option maxHeartbeats 1200000 in
/-- The body at its one point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0]
  rw [show (dat1 V c).Φ t.succ = (dat1 V c).Φ t.castSucc from rfl,
    show (dat1 V c).owesAt () t.succ = (dat1 V c).owesAt () t.castSucc from rfl, leaves1_0, leaves1_1]
  iintro ⟨HΦ, Ho, ⟨%d0, H0⟩, ⟨%d1, H1⟩⟩
  iapply (run_mask c _ _ _ _ (blk1 V c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row. -/
theorem row1 (t : Fin cfg1.N) : defs₀ (F := F) .tc cfg1.body (cfg1.bodyArgs t (cfg1.slots t)) = bodyAt1 t := by
  unfold defs₀; rw [Defs.onTc_tc]

/-- The library's body obligation. -/
theorem body1 (c : Dev nD) : BodyObligation (dat1 (F := F) V c) (defs₀ (F := F)) Variants.none () Set.univ := fun t => by
  rw [bigSep_W1, bigSep_W1, row1]
  exact triple_restated (sound1 V c t) rfl .rfl fun _ => .rfl

end Cert.Proof.Qkv
-- ==== Proof.Run2.lean ====
/- The third launch's body (attention head by head and the output projection), run on whole staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The mask word the body branches on at point `i`, and the branch. -/
def maskWord (i : grid2.Coords) (x0 : Vec F S1x16 .i32) : BitVec 32 :=
  VecWindow.window (s := S1x16) x0 (k2_off1 i) S1x1.size (k2_off1_inb i) (Shape.Idx.first (s := S1x1) (by decide))
abbrev maskOn (i : grid2.Coords) (x0 : Vec F S1x16 .i32) : Prop :=
  Scalar.cmpi .ne (Scalar.extui (Scalar.cmpi .ne (maskWord i x0) 0#32) : BitVec 32) 0#32 = 1#1

/-- The branch for an unchosen head is taken exactly when the other is not. -/
theorem branch_off (w : BitVec 1) : (Scalar.cmpi .ne (Scalar.extui (Scalar.xori w 1#1) : BitVec 32) 0#32 = 1#1) ↔ ¬ (Scalar.cmpi .ne (Scalar.extui w : BitVec 32) 0#32 = 1#1) := by
  revert w; decide

/-- The block of attention weights left at point `i`. -/
def attnOut (i : grid2.Coords) (x0 : Vec F S1x16 .i32) (x1 : Vec F S64x1024 .f32) (x2 : Vec F S64x2048 .f32) : Vec F S1x1x1024x2048 .f32 :=
  if maskOn i x0 then k2_pay6 x1 x2 else k2_pay2

/-- The rows of the output as the point finds them: at the bias for the first head, -/
def outBase (i : grid2.Coords) (x5 : Vec F S1x1024 .f32) (x7 : Vec F S2048x1024 .f32) : Vec F S2048x1024 .f32 :=
  if k2_cond1 i = 1#1 then VecWindow.put (s := S2048x1024) x7 (k2_off3 i) S1024x1024.size (k2_pay1 x5) else x7
/-- with a chosen head's contribution added. -/
def outAdd (i : grid2.Coords) (x1 : Vec F S64x1024 .f32) (x2 x3 : Vec F S64x2048 .f32) (x4 : Vec F S64x1024 .f32) (y : Vec F S2048x1024 .f32) : Vec F S2048x1024 .f32 :=
  VecWindow.put (s := S2048x1024) y (k2_off3 i) S1024x1024.size (k2_pay7 x1 x2 x3 (VecWindow.window (s := S2048x1024) y (k2_off3 i) S1024x1024.size (k2_off3_inb i)) x4)
def outStep (i : grid2.Coords) (x0 : Vec F S1x16 .i32) (x1 : Vec F S64x1024 .f32) (x2 x3 : Vec F S64x2048 .f32) (x4 : Vec F S64x1024 .f32) (x5 : Vec F S1x1024 .f32)
    (x7 : Vec F S2048x1024 .f32) : Vec F S2048x1024 .f32 :=
  if maskOn i x0 then outAdd i x1 x2 x3 x4 (outBase i x5 x7) else outBase i x5 x7

set_option maxHeartbeats 2000000 in
/-- The body at a point of the first head: the output's rows start at the bias. -/
theorem run_first (c : Dev nD) (i : grid2.Coords) (arg2 : Memref sig .tc .smem S1x16 .i32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S1x1x1024x2048 .f32) (harg8 : arg8.IsWhole) (arg9 : Memref sig .tc .vmem S2048x1024 .f32) (harg9 : arg9.IsWhole)
    (x0 : Vec F S1x16 .i32) (x1 : Vec F S64x1024 .f32) (x2 x3 : Vec F S64x2048 .f32) (x4 : Vec F S64x1024 .f32) (x5 : Vec F S1x1024 .f32) (x7 : Vec F S2048x1024 .f32)
    (hc : k2_cond1 i = 1#1)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (attnOut i x0 x1 x2) ∗ owns (c : Thread nD τ) arg9 fullShare (outStep i x0 x1 x2 x3 x4 x5 x7)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K := by
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    have hword : run_first.sl.r c i arg2 f0 = maskWord i x0 := by
      subst hf0
      exact congrFun (View.readAt_unit arg2.view f0 (k2_off1_inb i) rfl (k2_off1_inb i)) _
    have e1 : arg3.view.readAt (Elt F) (Rect.unit (s := S64x1024) ![0, 0] S64x1024.size inb_S64x1024_S64x1024_0_0).toLoadRect f1 = x1 := (View.readAt_full arg3.view f1 _).trans hf1
    have e2 : arg4.view.readAt (Elt F) (Rect.unit (s := S64x2048) ![0, 0] S64x2048.size inb_S64x2048_S64x2048_0_0).toLoadRect f2 = x2 := (View.readAt_full arg4.view f2 _).trans hf2
    have e3 : arg5.view.readAt (Elt F) (Rect.unit (s := S64x2048) ![0, 0] S64x2048.size inb_S64x2048_S64x2048_0_0).toLoadRect f3 = x3 := (View.readAt_full arg5.view f3 _).trans hf3
    have e4 : arg6.view.readAt (Elt F) (Rect.unit (s := S64x1024) ![0, 0] S64x1024.size inb_S64x1024_S64x1024_0_0).toLoadRect f4 = x4 := (View.readAt_full arg6.view f4 _).trans hf4
    have e5 : arg7.view.readAt (Elt F) (Rect.unit (s := S1x1024) ![0, 0] S1x1024.size inb_S1x1024_S1x1024_0_0).toLoadRect f5 = x5 := (View.readAt_full arg7.view f5 _).trans hf5
    isplitl [H6]
    · iexists _; isplitr; swap; · iexact H6
      ipureintro
      rw [hword, e1, e2]
      unfold attnOut
      by_cases hw : maskOn i x0
      · rw [dif_neg ((branch_off _).not.mpr (not_not.mpr hw)), dif_pos hw, if_pos hw]
        exact View.read_writes_full arg8.view f6 inb_S1x1x1024x2048_S1x1x1024x2048_0_0_0_0 _ []
      · rw [dif_pos ((branch_off _).mpr hw), dif_neg hw, if_neg hw]
        exact View.read_writes_full arg8.view f6 inb_S1x1x1024x2048_S1x1x1024x2048_0_0_0_0 _ []
    iexists _; isplitr; swap; · iexact H7
    ipureintro
    rw [hword, e1, e2, e3, e4]
    have hb : arg9.view.read (Elt F) (arg9.view.writes (Elt F) f7 (run_first.sl.H7_1 c i arg7 hc f5)) = outBase i x5 x7 := by
      refine (View.read_writes_cons_put arg9.view f7 (off' := k2_off3 i) (k2_off2_inb i hc) _ [] rfl).trans ?_
      rw [View.writes_nil, hf7]
      refine Eq.trans ?_ (if_pos hc).symm
      exact congrArg (fun w => VecWindow.put (s := S2048x1024) x7 (k2_off3 i) S1024x1024.size (k2_pay1 w)) e5
    have hl : run_first.sl.v38 c i arg7 arg9 hc f5 = VecWindow.window (s := S2048x1024) (outBase i x5 x7) (k2_off3 i) S1024x1024.size (k2_off3_inb i) := by
      refine (View.readAt_unit arg9.view _ (k2_off3_inb i) rfl (k2_off3_inb i)).trans ?_
      rw [show outBase i x5 x7 = VecWindow.put (s := S2048x1024) x7 (k2_off3 i) S1024x1024.size (k2_pay1 x5) from if_pos hc, VecWindow.window_put_same]
      refine (congrArg (fun w => VecWindow.window (s := S2048x1024) w (k2_off3 i) S1024x1024.size (k2_off3_inb i))
        (View.read_writes_cons_put arg9.view _ (off' := k2_off3 i) (k2_off2_inb i hc) _ [] rfl)).trans ?_
      refine (VecWindow.window_put_same _ _ _ _ _).trans ?_
      exact congrArg k2_pay1 e5
    unfold outStep
    by_cases hw : maskOn i x0
    · rw [dif_pos hw, if_pos hw, hl]
      refine (View.read_writes_cons_put arg9.view f7 (off' := k2_off3 i) (k2_off3_inb i) _ _ rfl).trans ?_
      exact congrArg (fun y => VecWindow.put (s := S2048x1024) y (k2_off3 i) S1024x1024.size _) hb
    · rw [dif_neg hw, if_neg hw, hb]

set_option maxHeartbeats 2000000 in
/-- The body at a point of a later head: the output's rows are as the head before left them. -/
theorem run_later (c : Dev nD) (i : grid2.Coords) (arg2 : Memref sig .tc .smem S1x16 .i32) (harg2 : arg2.IsWhole) (arg3 : Memref sig .tc .vmem S64x1024 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S64x1024 .f32) (harg6 : arg6.IsWhole) (arg7 : Memref sig .tc .vmem S1x1024 .f32) (harg7 : arg7.IsWhole) (arg8 : Memref sig .tc .vmem S1x1x1024x2048 .f32) (harg8 : arg8.IsWhole) (arg9 : Memref sig .tc .vmem S2048x1024 .f32) (harg9 : arg9.IsWhole)
    (x0 : Vec F S1x16 .i32) (x1 : Vec F S64x1024 .f32) (x2 x3 : Vec F S64x2048 .f32) (x4 : Vec F S64x1024 .f32) (x5 : Vec F S1x1024 .f32) (x7 : Vec F S2048x1024 .f32)
    (hc : ¬ k2_cond1 i = 1#1)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (attnOut i x0 x1 x2) ∗ owns (c : Thread nD τ) arg9 fullShare (outStep i x0 x1 x2 x3 x4 x5 x7)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K := by
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    have hword : run_later.sl.r c i arg2 f0 = maskWord i x0 := by
      subst hf0
      exact congrFun (View.readAt_unit arg2.view f0 (k2_off1_inb i) rfl (k2_off1_inb i)) _
    have e1 : arg3.view.readAt (Elt F) (Rect.unit (s := S64x1024) ![0, 0] S64x1024.size inb_S64x1024_S64x1024_0_0).toLoadRect f1 = x1 := (View.readAt_full arg3.view f1 _).trans hf1
    have e2 : arg4.view.readAt (Elt F) (Rect.unit (s := S64x2048) ![0, 0] S64x2048.size inb_S64x2048_S64x2048_0_0).toLoadRect f2 = x2 := (View.readAt_full arg4.view f2 _).trans hf2
    have e3 : arg5.view.readAt (Elt F) (Rect.unit (s := S64x2048) ![0, 0] S64x2048.size inb_S64x2048_S64x2048_0_0).toLoadRect f3 = x3 := (View.readAt_full arg5.view f3 _).trans hf3
    have e4 : arg6.view.readAt (Elt F) (Rect.unit (s := S64x1024) ![0, 0] S64x1024.size inb_S64x1024_S64x1024_0_0).toLoadRect f4 = x4 := (View.readAt_full arg6.view f4 _).trans hf4
    have e5 : arg7.view.readAt (Elt F) (Rect.unit (s := S1x1024) ![0, 0] S1x1024.size inb_S1x1024_S1x1024_0_0).toLoadRect f5 = x5 := (View.readAt_full arg7.view f5 _).trans hf5
    isplitl [H6]
    · iexists _; isplitr; swap; · iexact H6
      ipureintro
      rw [hword, e1, e2]
      unfold attnOut
      by_cases hw : maskOn i x0
      · rw [dif_neg ((branch_off _).not.mpr (not_not.mpr hw)), dif_pos hw, if_pos hw]
        exact View.read_writes_full arg8.view f6 inb_S1x1x1024x2048_S1x1x1024x2048_0_0_0_0 _ []
      · rw [dif_pos ((branch_off _).mpr hw), dif_neg hw, if_neg hw]
        exact View.read_writes_full arg8.view f6 inb_S1x1x1024x2048_S1x1x1024x2048_0_0_0_0 _ []
    iexists _; isplitr; swap; · iexact H7
    ipureintro
    rw [hword, e1, e2, e3, e4]
    have hb : outBase i x5 x7 = x7 := if_neg hc
    unfold outStep
    rw [hb]
    by_cases hw : maskOn i x0
    · rw [dif_pos hw, if_pos hw]
      refine (View.read_writes_cons_put arg9.view f7 (off' := k2_off3 i) (k2_off3_inb i) _ _ rfl).trans ?_
      rw [View.writes_nil, hf7]
      unfold outAdd
      refine congrArg (fun w => VecWindow.put (s := S2048x1024) x7 (k2_off3 i) S1024x1024.size (k2_pay7 x1 x2 x3 w x4)) ?_
      refine (View.readAt_unit arg9.view f7 (k2_off3_inb i) rfl (k2_off3_inb i)).trans ?_
      rw [hf7]
    · rw [dif_neg hw, if_neg hw, hf7]

end Cert.Proof.Qkv
-- ==== Proof.Reg2.lean ====
/- The third launch (attention and projection): what its windows hold, and the body's triple. The output's rows are written half by half, so what the
   body leaves in that window is said of the halves written so far. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Run2
public import Idealize.ShloMosaic.Lib.Pipeline.FrameBody
public import Idealize.ShloMosaic.Lib.Pipeline.DatRel
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The points -/

/-- The output's rows start at the points of the first head, -/
theorem cond2_1 : ∀ t : Fin grid2.N, (k2_cond1 (grid2.coords t) = 1#1) ↔ t.val < 2 := by decide +kernel
/-- and a point works on the half of the rows its parity names. -/
theorem off2_3 : ∀ t : Fin grid2.N, k2_off3 (grid2.coords t) 0 = 1024 * (t.val % 2) := by decide +kernel
theorem off2_3' : ∀ t : Fin grid2.N, k2_off3 (grid2.coords t) 1 = 0 := by decide +kernel

/-! ## What the windows hold -/

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The half of the rows a point works on, of the output's contents. -/
abbrev half (t : Fin cfg2.N) (X : Vec F S2048x1024 .f32) : Vec F S1024x1024 .f32 :=
  VecWindow.window (s := S2048x1024) X (k2_off3 (grid2.coords t)) S1024x1024.size (k2_off3_inb (grid2.coords t))

/-- A chosen head's contribution added to a half of the rows; an unchosen head adds nothing. -/
def addHead (c : Dev nD) (t : Fin cfg2.N) (y : Vec F S1024x1024 .f32) : Vec F S1024x1024 .f32 :=
  if maskOn (grid2.coords t) (blk2 V c 0 t) then k2_pay7 (blk2 V c 1 t) (blk2 V c 2 t) (blk2 V c 3 t) y (blk2 V c 4 t) else y

/-- The half of the rows point `n` works on, as it leaves it: from the bias, the heads so far added in order. -/
def acc (c : Dev nD) : (n : ℕ) → n < cfg2.N → Vec F S1024x1024 .f32
  | 0, h => addHead V c ⟨0, h⟩ (k2_pay1 (blk2 V c 5 ⟨0, h⟩))
  | 1, h => addHead V c ⟨1, h⟩ (k2_pay1 (blk2 V c 5 ⟨1, h⟩))
  | n + 2, h => addHead V c ⟨n + 2, h⟩ (acc c n (by omega))

/-- The output in the end: both halves with every head added. -/
def outFinal (c : Dev nD) : Vec F S2048x1024 .f32 := fun y =>
  if h : (y (0 : Fin 2)).val < 1024 then acc V c 30 (by decide) (show S1024x1024.Idx from fun a => match a with | ⟨0, _⟩ => ⟨(y (0 : Fin 2)).val, h⟩ | ⟨1, _⟩ => y (1 : Fin 2))
  else acc V c 31 (by decide) (show S1024x1024.Idx from fun a => match a with
    | ⟨0, _⟩ => ⟨(y (0 : Fin 2)).val - 1024, by have := (y (0 : Fin 2)).isLt; have e : S2048x1024.size (0 : Fin 2) = 2048 := rfl; show _ < 1024; omega⟩ | ⟨1, _⟩ => y (1 : Fin 2))

/-- The third launch's proof data; the output window's last write is named, what it holds before is `partOut`'s matter. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => attnOut (grid2.coords t) (blk2 V c 0 t) (blk2 V c 1 t) (blk2 V c 2 t)
    | ⟨7, _⟩ => outFinal V c
  Φ _ := Pipeline.ΦA spec2 c
  q w := Pipeline.shareOf spec2 w
  owed _ := 0

theorem A2_eq (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = attnOut (grid2.coords t) (blk2 V c 0 t) (blk2 V c 1 t) (blk2 V c 2 t) := by dsimp only [dat2]
theorem after2_7 (c : Dev nD) (t : Fin cfg2.N) : (dat2 V c).after 7 t = outFinal V c := by dsimp only [dat2]
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A2_eq]; try rfl) t d).trans
    (by unfold Dat.fetched Dat.blockOf blk2; rw [A2_eq]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A2_eq]; try rfl) t d).trans
    (by unfold Dat.fetched Dat.blockOf blk2; rw [A2_eq]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A2_eq]; try rfl) t d).trans
    (by unfold Dat.fetched Dat.blockOf blk2; rw [A2_eq]; try rfl)
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; rw [A2_eq]; try rfl) t d).trans
    (by unfold Dat.fetched Dat.blockOf blk2; rw [A2_eq]; try rfl)
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; rw [A2_eq]; try rfl) t d).trans
    (by unfold Dat.fetched Dat.blockOf blk2; rw [A2_eq]; try rfl)
theorem before2_5 (c : Dev nD) (t : Fin cfg2.N) (d) : (dat2 V c).before 5 t d = blk2 V c 5 t :=
  ((dat2 V c).before_in_eq_fetched 5 rfl (fun _ => rfl) (fun _ _ _ => rfl) (fun t => by rw [after2_5]; unfold Dat.blockOf blk2; rw [A2_eq]; try rfl) t d).trans
    (by unfold Dat.fetched Dat.blockOf blk2; rw [A2_eq]; try rfl)
theorem leaves2_0 (c : Dev nD) (t : Fin cfg2.N) : (dat2 V c).leavesExact 0 t = owns (c : Thread nD τ) (st2_0 t) fullShare (blk2 V c 0 t) := by
  rw [← after2_0]
theorem leaves2_1 (c : Dev nD) (t : Fin cfg2.N) : (dat2 V c).leavesExact 1 t = owns (c : Thread nD τ) (st2_1 t) fullShare (blk2 V c 1 t) := by
  rw [← after2_1]
theorem leaves2_2 (c : Dev nD) (t : Fin cfg2.N) : (dat2 V c).leavesExact 2 t = owns (c : Thread nD τ) (st2_2 t) fullShare (blk2 V c 2 t) := by
  rw [← after2_2]
theorem leaves2_3 (c : Dev nD) (t : Fin cfg2.N) : (dat2 V c).leavesExact 3 t = owns (c : Thread nD τ) (st2_3 t) fullShare (blk2 V c 3 t) := by
  rw [← after2_3]
theorem leaves2_4 (c : Dev nD) (t : Fin cfg2.N) : (dat2 V c).leavesExact 4 t = owns (c : Thread nD τ) (st2_4 t) fullShare (blk2 V c 4 t) := by
  rw [← after2_4]
theorem leaves2_5 (c : Dev nD) (t : Fin cfg2.N) : (dat2 V c).leavesExact 5 t = owns (c : Thread nD τ) (st2_5 t) fullShare (blk2 V c 5 t) := by
  rw [← after2_5]
theorem leaves2_6 (c : Dev nD) (t : Fin cfg2.N) : (dat2 V c).leavesExact 6 t = owns (c : Thread nD τ) (st2_6 t) fullShare ((attnOut (grid2.coords t) (blk2 V c 0 t) (blk2 V c 1 t) (blk2 V c 2 t))) := by
  rw [← after2_6]

/-! ## The output's halves -/

/-- The window whose contents the relation constrains: the output's. -/
def relOn : Fin cfg2.W → Bool
  | ⟨7, _⟩ => true
  | _ => false

/-- What the output window holds after point `t`: the half the point works on, and from the second point on the other half as well. -/
def PartOut (c : Dev nD) (t : Fin cfg2.N) (X : Vec F S2048x1024 .f32) : Prop :=
  half t X = acc V c t.val t.isLt ∧ ∀ h : 0 < t.val, half ⟨t.val - 1, by omega⟩ X = acc V c (t.val - 1) (by omega)

def rel2 (c : Dev nD) : (w : Fin cfg2.W) → Fin cfg2.N → ((cfg2.win w).block.Idx → Elt F (cfg2.win w).elt) → Prop
  | ⟨7, _⟩ => fun t X => PartOut V c t X
  | _ => fun _ _ => True

/-- A point's step on its own half. -/
theorem half_step (c : Dev nD) (t : Fin cfg2.N) (X : Vec F S2048x1024 .f32) :
    half t (outStep (grid2.coords t) (blk2 V c 0 t) (blk2 V c 1 t) (blk2 V c 2 t) (blk2 V c 3 t) (blk2 V c 4 t) (blk2 V c 5 t) X)
      = addHead V c t (if t.val < 2 then k2_pay1 (blk2 V c 5 t) else half t X) := by
  have hb : half t (outBase (grid2.coords t) (blk2 V c 5 t) X) = if t.val < 2 then k2_pay1 (blk2 V c 5 t) else half t X := by
    unfold outBase half
    by_cases h : t.val < 2
    · rw [if_pos ((cond2_1 t).mpr h), if_pos h]
      exact VecWindow.window_put_same _ _ _ _ _
    · rw [if_neg (fun h' => h ((cond2_1 t).mp h')), if_neg h]
  unfold outStep addHead
  by_cases hw : maskOn (grid2.coords t) (blk2 V c 0 t)
  · rw [if_pos hw, if_pos hw, ← hb]
    exact VecWindow.window_put_same _ _ _ _ _
  · rw [if_neg hw, if_neg hw, hb]

/-- A point's step leaves the other half. -/
theorem half_other (c : Dev nD) (t u : Fin cfg2.N) (hu : u.val % 2 ≠ t.val % 2) (X : Vec F S2048x1024 .f32) :
    half u (outStep (grid2.coords t) (blk2 V c 0 t) (blk2 V c 1 t) (blk2 V c 2 t) (blk2 V c 3 t) (blk2 V c 4 t) (blk2 V c 5 t) X) = half u X := by
  have hd : ∀ (Y : Vec F S2048x1024 .f32) (w : Vec F S1024x1024 .f32), half u (VecWindow.put (s := S2048x1024) Y (k2_off3 (grid2.coords t)) S1024x1024.size w) = half u Y := fun Y w =>
    VecWindow.window_put_of_disjoint (s := S2048x1024) Y _ _ _ _ _ w (0 : Fin 2) (by
      have e1 := off2_3 t
      have e2 := off2_3 u
      have e3 : S1024x1024.size (0 : Fin 2) = 1024 := rfl
      show k2_off3 (grid2.coords u) 0 + S1024x1024.size (0 : Fin 2) ≤ k2_off3 (grid2.coords t) 0 ∨ k2_off3 (grid2.coords t) 0 + S1024x1024.size (0 : Fin 2) ≤ k2_off3 (grid2.coords u) 0
      rw [e1, e2, e3]
      omega)
  have hb : half u (outBase (grid2.coords t) (blk2 V c 5 t) X) = half u X := by
    unfold outBase
    split
    · exact hd _ _
    · rfl
  unfold outStep
  split
  · exact (hd _ _).trans hb
  · exact hb

/-- A window's contents seen through equal points are equal. -/
theorem half_congr (t u : Fin cfg2.N) (h : u.val % 2 = t.val % 2) (X : Vec F S2048x1024 .f32) : half u X = half t X := by
  have e : k2_off3 (grid2.coords u) = k2_off3 (grid2.coords t) := by
    funext a
    match a with
    | ⟨0, _⟩ => exact (off2_3 u).trans ((congrArg (1024 * ·) h).trans (off2_3 t).symm)
    | ⟨1, _⟩ => exact (off2_3' u).trans (off2_3' t).symm
  funext y
  refine congrArg X (funext fun a => Fin.ext ?_)
  show k2_off3 (grid2.coords u) a + 1 * (y a).val = k2_off3 (grid2.coords t) a + 1 * (y a).val
  rw [e]

/-- The relation at a point, from the one before. -/
theorem partOut_step (c : Dev nD) (t : Fin cfg2.N) (X : Vec F S2048x1024 .f32)
    (hX : ∀ h : 0 < t.val, PartOut V c ⟨t.val - 1, by omega⟩ X) :
    PartOut V c t (outStep (grid2.coords t) (blk2 V c 0 t) (blk2 V c 1 t) (blk2 V c 2 t) (blk2 V c 3 t) (blk2 V c 4 t) (blk2 V c 5 t) X) := by
  refine ⟨?_, fun h => ?_⟩
  · rw [half_step]
    obtain ⟨n, hn⟩ := t
    match n, hn, hX with
    | 0, hn, _ => rw [if_pos (Nat.lt_of_lt_of_le (by first | exact Nat.zero_lt_two | exact Nat.one_lt_two) le_rfl)]; rfl
    | 1, hn, _ => rw [if_pos (Nat.lt_of_lt_of_le (by first | exact Nat.zero_lt_two | exact Nat.one_lt_two) le_rfl)]; rfl
    | n + 2, hn, hX =>
      rw [if_neg (by show ¬ n + 2 < 2; omega)]
      have h1 := (hX (Nat.succ_pos _)).2 (Nat.succ_pos _)
      rw [half_congr ⟨n, by omega⟩ ⟨n + 2, hn⟩ (by show (n + 2) % 2 = n % 2; omega) X, show half ⟨n, by omega⟩ X = acc V c n (by omega) from h1]
      rfl
  · rw [half_other V c t ⟨t.val - 1, by omega⟩ (by show (t.val - 1) % 2 ≠ t.val % 2; omega) X]
    exact (hX h).1

/-- After the last point the output is `outFinal`. -/
theorem partOut_last (c : Dev nD) (t : Fin cfg2.N) (ht : t.val = 31) (X : Vec F S2048x1024 .f32) (hX : PartOut V c t X) : X = outFinal V c := by
  obtain ⟨n, hn⟩ := t
  obtain rfl : n = 31 := ht
  funext y
  have h1 := hX.1
  have h2 := hX.2 (Nat.succ_pos _)
  have h30 : 30 < cfg2.N := by decide
  unfold outFinal
  by_cases hy : (y (0 : Fin 2)).val < 1024
  · rw [dif_pos hy]
    refine Eq.trans ?_ (congrFun h2 _)
    refine congrArg X (funext fun a => Fin.ext ?_)
    match a with
    | ⟨0, _⟩ => show (y (0 : Fin 2)).val = k2_off3 (grid2.coords (⟨30, h30⟩ : Fin cfg2.N)) 0 + 1 * (y (0 : Fin 2)).val; rw [off2_3 ⟨30, h30⟩]; show _ = 1024 * (30 % 2) + _; omega
    | ⟨1, _⟩ => show (y (1 : Fin 2)).val = k2_off3 (grid2.coords (⟨30, h30⟩ : Fin cfg2.N)) 1 + 1 * (y (1 : Fin 2)).val; rw [off2_3' ⟨30, h30⟩]; omega
  · rw [dif_neg hy]
    refine Eq.trans ?_ (congrFun h1 _)
    refine congrArg X (funext fun a => Fin.ext ?_)
    match a with
    | ⟨0, _⟩ => show (y (0 : Fin 2)).val = k2_off3 (grid2.coords (⟨31, hn⟩ : Fin cfg2.N)) 0 + 1 * ((y (0 : Fin 2)).val - 1024); rw [off2_3 ⟨31, hn⟩]; show _ = 1024 * (31 % 2) + _; omega
    | ⟨1, _⟩ => show (y (1 : Fin 2)).val = k2_off3 (grid2.coords (⟨31, hn⟩ : Fin cfg2.N)) 1 + 1 * (y (1 : Fin 2)).val; rw [off2_3' ⟨31, hn⟩]; omega

/-- The proof data with the output window held to the relation. -/
abbrev rdat2 (c : Dev nD) : Pipeline.RDat τ (Elt F) Unit ℕ (UR sig nD τ) ℕ cfg2 c := (dat2 V c).toRRel relOn (rel2 V c)

/-- What a point finds in the output window: what the point before left. -/
theorem found2_7 (c : Dev nD) (t : Fin cfg2.N) (Y : Vec F S2048x1024 .f32) (hY : (rdat2 V c).Finds 7 t Y) (h : 0 < t.val) :
    PartOut V c ⟨t.val - 1, by omega⟩ Y := by
  have hf : (cfg2.win 7).fetch t = false := rfl
  rcases ((rdat2 V c).finds_of_pos hf (by omega) Y).mp hY with hl | hl
  · have hl' := (flush2_7 _).mp hl
    have := t.isLt
    have hN : cfg2.N = 32 := rfl
    exact absurd (show (t.val - 1) % 32 = 31 from hl') (by omega)
  · exact (dat2 V c).toRRel_leaves (fgt := relOn) (Rl := rel2 V c) (w := 7) rfl hl

/-! ## The body's triple -/

/-- What the body is called with, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ Y, ⌜(rdat2 V c).Finds 7 t Y⌝ ∗ owns (c : Thread nD τ) (st2_7 t) fullShare Y))

/-- and what it returns. -/
def post2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t
    ∗ (∃ X, ⌜rel2 V c 7 t X⌝ ∗ owns (c : Thread nD τ) (st2_7 t) fullShare X))

set_option maxHeartbeats 4000000 in
/-- The body at point `t`. -/
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    leaves2_0, leaves2_1, leaves2_2, leaves2_3, leaves2_4, leaves2_5, leaves2_6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  have hP := partOut_step V c t Y (found2_7 V c t Y hY)
  by_cases hc : k2_cond1 (grid2.coords t) = 1#1
  · iapply (run_first c (grid2.coords t) _ _ _ _ _ _ _ _ _ _ _ _ _ _ _ _ (blk2 V c 0 t) (blk2 V c 1 t) (blk2 V c 2 t) (blk2 V c 3 t) (blk2 V c 4 t) (blk2 V c 5 t) Y hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro; exact hP
  · iapply (run_later c (grid2.coords t) _ _ _ _ _ _ _ _ _ _ _ _ _ _ _ _ (blk2 V c 0 t) (blk2 V c 1 t) (blk2 V c 2 t) (blk2 V c 3 t) (blk2 V c 4 t) (blk2 V c 5 t) Y hc Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro; exact hP

/-- The body table's row. -/
theorem row2 (t : Fin cfg2.N) : defs₀ (F := F) .tc cfg2.body (cfg2.bodyArgs t (cfg2.slots t)) = bodyAt2 t := by
  unfold defs₀; rw [Defs.onTc_tc]

/-- The library's body obligation. -/
theorem body2 (c : Dev nD) : BodyObligationRel (dat2 (F := F) V c) (defs₀ (F := F)) Variants.none () Set.univ relOn (rel2 V c) := fun t => by
  rw [bigSep_W2, bigSep_W2, row2]
  exact triple_restated (sound2 V c t) rfl .rfl fun _ => .rfl

/-! ## The arrays in the end -/

/-- Whatever the arrays may hold in the end is what the exact data name. -/
theorem arr2_end (c : Dev nD) (w : Fin cfg2.W) (G : Buf (Elt F) ((cfg2.win w).arr.view.loc (c.tc : Thread nD τ)))
    (hG : (rdat2 V c).ArrAt w cfg2.N G) : G = (dat2 V c).arrAt w cfg2.N := by
  by_cases hw : relOn w = false
  · exact (dat2 V c).toR_arrAt w _ G (((dat2 V c).toR.override_arrAt (by simp only [hw]) _ G).mp hG)
  · obtain rfl : w = 7 := (by decide : ∀ w : Fin cfg2.W, ¬ relOn w = false → w = 7) w hw
    have hlow : ∀ n : ℕ, n ≤ 31 → ∀ G, (rdat2 V c).ArrAt 7 n G → G = (dat2 V c).arrAt 7 n := by
      intro n
      induction n with
      | zero => intro _ G h; exact h
      | succ n ih =>
        intro hn G h
        have hlt : n < cfg2.N := by have : cfg2.N = 32 := rfl; omega
        have hR := (rdat2 V c).ArrAt_succ 7 ⟨n, hlt⟩
        have hD := (dat2 V c).arrAt_succ 7 ⟨n, hlt⟩
        have hfl : ¬ (cfg2.win 7).flush ⟨n, hlt⟩ = true := fun hf => by
          have := (flush2_7 _).mp hf
          have h' : n % 32 = 31 := this
          omega
        dsimp only at hR hD
        rw [hR, if_neg hfl] at h
        rw [hD, if_neg hfl]
        exact ih (by omega) G h
    have hR := (rdat2 V c).ArrAt_succ 7 (⟨31, by decide⟩ : Fin cfg2.N)
    have hD := (dat2 V c).arrAt_succ 7 (⟨31, by decide⟩ : Fin cfg2.N)
    have hfl : (cfg2.win 7).flush (⟨31, by decide⟩ : Fin cfg2.N) = true := (flush2_7 _).mpr rfl
    dsimp only at hR hD
    rw [show cfg2.N = 31 + 1 from rfl] at hG ⊢
    rw [hR, if_pos hfl] at hG
    rw [hD, if_pos hfl]
    obtain ⟨G₀, X, hG₀, hX, rfl⟩ := hG
    have hX' : PartOut V c (⟨31, by decide⟩ : Fin cfg2.N) X := (dat2 V c).toRRel_leaves (fgt := relOn) (Rl := rel2 V c) (w := 7) rfl hX
    rw [hlow 31 le_rfl G₀ hG₀, partOut_last V c _ rfl X hX', ← after2_7 V c (⟨31, by decide⟩ : Fin cfg2.N)]

end Cert.Proof.Qkv
-- ==== Proof.Launch.lean ====
/- The whole program's run: the three launches between the host operations, and what every buffer holds in the end. -/
module

public import proofs.«01_k».proof.Proof.Gen.KernelIdeal.Regions
public import Idealize.ShloMosaic.Lib.Pipeline.RegionsLoop
public import proofs.«01_k».proof.Proof.Reg0
public import proofs.«01_k».proof.Proof.Reg1
public import proofs.«01_k».proof.Proof.Reg2

@[expose] public section

set_option maxRecDepth 16384

noncomputable section

namespace Cert.Proof.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ)

/-! ## The buffers between the items -/

/-- After the host operations before the first launch, -/
def W1 (c : Dev nD) : Valuation τ sig (Elt F) := V1 m c
/-- after the first launch, -/
def W2 (c : Dev nD) : Valuation τ sig (Elt F) :=
  Function.update (Function.update (W1 m c) main_v2_0 ((dat0 (fun c b => W1 m c b) c).arrAt 3 cfg0.N)) main_v2_1 ((dat0 (fun c b => W1 m c b) c).arrAt 4 cfg0.N)
/-- after the second, -/
def W3 (c : Dev nD) : Valuation τ sig (Elt F) := Function.update (W2 m c) main_v3 ((dat1 (fun c b => W2 m c b) c).arrAt 1 cfg1.N)
/-- after the host operations before the third, -/
def W4 (c : Dev nD) : Valuation τ sig (Elt F) := StableHlo.after hostOps2 (W3 m c)
/-- after the third, -/
def W5 (c : Dev nD) : Valuation τ sig (Elt F) :=
  Function.update (Function.update (W4 m c) main_v6_0 ((dat2 (fun c b => W4 m c b) c).arrAt 6 cfg2.N)) main_v6_1 ((dat2 (fun c b => W4 m c b) c).arrAt 7 cfg2.N)
/-- and in the end. -/
def W6 (c : Dev nD) : Valuation τ sig (Elt F) := StableHlo.after hostOps3 (W5 m c)

/-- Two buffers updated: off them the valuation is as before, -/
theorem upd2_off (X : Valuation τ sig (Elt F)) (a b r : Ref sig .tc) (x) (y) (ha : r ≠ a) (hb : r ≠ b) :
    (Function.update (Function.update X (Proc.devRef .tc a) x) (Proc.devRef .tc b) y : Valuation τ sig (Elt F)) r = X r := by
  rw [Function.update_of_ne (StableHlo.devRef_ne_of_ne hb), Function.update_of_ne (StableHlo.devRef_ne_of_ne ha)]
/-- and on the first the first contents. -/
theorem upd2_fst (X : Valuation τ sig (Elt F)) (a b : Ref sig .tc) (x) (y) (hb : a ≠ b) :
    (Function.update (Function.update X (Proc.devRef .tc a) x) (Proc.devRef .tc b) y : Valuation τ sig (Elt F)) a = x := by
  rw [Function.update_of_ne (StableHlo.devRef_ne_of_ne hb), Function.update_self]

theorem W2_off (c : Dev nD) (r : Ref sig .tc) (h0 : r ≠ main_v2_0) (h1 : r ≠ main_v2_1) : W2 m c r = W1 m c r := upd2_off _ _ _ r _ _ h0 h1
theorem W2_0 (c : Dev nD) : W2 m c main_v2_0 = (dat0 (fun c b => W1 m c b) c).arrAt 3 cfg0.N := upd2_fst _ main_v2_0 main_v2_1 _ _ (by decide)
theorem W2_1 (c : Dev nD) : W2 m c main_v2_1 = (dat0 (fun c b => W1 m c b) c).arrAt 4 cfg0.N := Function.update_self ..
theorem W3_off (c : Dev nD) (r : Ref sig .tc) (h0 : r ≠ main_v3) : W3 m c r = W2 m c r := Function.update_of_ne (StableHlo.devRef_ne_of_ne h0) ..
theorem W3_0 (c : Dev nD) : W3 m c main_v3 = (dat1 (fun c b => W2 m c b) c).arrAt 1 cfg1.N := Function.update_self ..
theorem W4_off (c : Dev nD) (r : Ref sig .tc) (h : r ∉ hostOps2_W) : W4 m c r = W3 m c r := StableHlo.after_of_writes_sub hostOps2 _ hostOps2_writes h
theorem W5_off (c : Dev nD) (r : Ref sig .tc) (h0 : r ≠ main_v6_0) (h1 : r ≠ main_v6_1) : W5 m c r = W4 m c r := upd2_off _ _ _ r _ _ h0 h1
theorem W5_0 (c : Dev nD) : W5 m c main_v6_0 = (dat2 (fun c b => W4 m c b) c).arrAt 6 cfg2.N := upd2_fst _ main_v6_0 main_v6_1 _ _ (by decide)
theorem W5_1 (c : Dev nD) : W5 m c main_v6_1 = (dat2 (fun c b => W4 m c b) c).arrAt 7 cfg2.N := Function.update_self ..
theorem W6_off (c : Dev nD) (r : Ref sig .tc) (h : r ∉ hostOps3_W) : W6 m c r = W5 m c r := StableHlo.after_of_writes_sub hostOps3 _ hostOps3_writes h

/-- A buffer no item writes ends as launched. -/
theorem W6_arg (c : Dev nD) (r : Ref sig .tc) (h0 : r ∉ hostOps0_W) (h1 : r ∉ ([main_v2_0, main_v2_1, main_v3, main_v6_0, main_v6_1] : List (Ref sig .tc)))
    (h2 : r ∉ hostOps2_W) (h3 : r ∉ hostOps3_W) : W6 m c r = m ((c : Thread nD τ).loc r) := by
  simp only [List.mem_cons, List.not_mem_nil, or_false, not_or] at h1
  obtain ⟨a0, a1, a2, a3, a4⟩ := h1
  exact (W6_off m c r h3).trans ((W5_off m c r a3 a4).trans ((W4_off m c r h2).trans ((W3_off m c r a2).trans ((W2_off m c r a0 a1).trans ((V1_of m c r h0).trans rfl)))))

/-! ## The arrays in the end, read off the valuations -/

section
variable (V : (c : Dev nD) → (b : Ref sig .tc) → Buf (Elt F) ((c : Thread nD τ).loc b))
theorem in0 (c : Dev nD) (w : Fin cfg0.W) (hw : (cfg0.win w).isOut = false) (n : ℕ) : (dat0 V c).arrAt w n = V c (Pipeline.arrRef spec0 w) := ((dat0 V c).arrAt_in w hw n).trans (A0_eq V c w)
theorem in1 (c : Dev nD) (w : Fin cfg1.W) (hw : (cfg1.win w).isOut = false) (n : ℕ) : (dat1 V c).arrAt w n = V c (Pipeline.arrRef spec1 w) := ((dat1 V c).arrAt_in w hw n).trans (A1_eq V c w)
theorem in2 (c : Dev nD) (w : Fin cfg2.W) (hw : (cfg2.win w).isOut = false) (n : ℕ) : (dat2 V c).arrAt w n = V c (Pipeline.arrRef spec2 w) := ((dat2 V c).arrAt_in w hw n).trans (A2_eq V c w)
end

theorem fin0 (c : Dev nD) : ∀ w : Fin cfg0.W, (dat0 (fun c b => W1 m c b) c).arrAt w cfg0.N = W2 m c (Pipeline.arrRef spec0 w)
  | ⟨0, _⟩ => (in0 (fun c b => W1 m c b) c 0 rfl _).trans (W2_off m c (Pipeline.arrRef spec0 0) (by decide) (by decide)).symm
  | ⟨1, _⟩ => (in0 (fun c b => W1 m c b) c 1 rfl _).trans (W2_off m c (Pipeline.arrRef spec0 1) (by decide) (by decide)).symm
  | ⟨2, _⟩ => (in0 (fun c b => W1 m c b) c 2 rfl _).trans (W2_off m c main_v1 (by decide) (by decide)).symm
  | ⟨3, _⟩ => (W2_0 m c).symm
  | ⟨4, _⟩ => (W2_1 m c).symm
theorem fin1 (c : Dev nD) : ∀ w : Fin cfg1.W, (dat1 (fun c b => W2 m c b) c).arrAt w cfg1.N = W3 m c (Pipeline.arrRef spec1 w)
  | ⟨0, _⟩ => (in1 (fun c b => W2 m c b) c 0 rfl _).trans (W3_off m c main_v2_1 (by decide)).symm
  | ⟨1, _⟩ => (W3_0 m c).symm
theorem fin2 (c : Dev nD) : ∀ w : Fin cfg2.W, (dat2 (fun c b => W4 m c b) c).arrAt w cfg2.N = W5 m c (Pipeline.arrRef spec2 w)
  | ⟨0, _⟩ => (in2 (fun c b => W4 m c b) c 0 rfl _).trans (W5_off m c main_v3 (by decide) (by decide)).symm
  | ⟨1, _⟩ => (in2 (fun c b => W4 m c b) c 1 rfl _).trans (W5_off m c main_v2_0 (by decide) (by decide)).symm
  | ⟨2, _⟩ => (in2 (fun c b => W4 m c b) c 2 rfl _).trans (W5_off m c main_v2_0 (by decide) (by decide)).symm
  | ⟨3, _⟩ => (in2 (fun c b => W4 m c b) c 3 rfl _).trans (W5_off m c main_v2_0 (by decide) (by decide)).symm
  | ⟨4, _⟩ => (in2 (fun c b => W4 m c b) c 4 rfl _).trans (W5_off m c main_v4 (by decide) (by decide)).symm
  | ⟨5, _⟩ => (in2 (fun c b => W4 m c b) c 5 rfl _).trans (W5_off m c main_v5 (by decide) (by decide)).symm
  | ⟨6, _⟩ => (W5_0 m c).symm
  | ⟨7, _⟩ => (W5_1 m c).symm

/-! ## The proof data of the three launches -/

/-- The exact data, -/
def dats : (p : Fin 3) → (c : Dev nD) → Dat τ (Elt F) Unit ℕ (UR sig nD τ) ℕ (cfgs p) c
  | ⟨0, _⟩ => dat0 fun c b => W1 m c b
  | ⟨1, _⟩ => dat1 fun c b => W2 m c b
  | ⟨2, _⟩ => dat2 fun c b => W4 m c b

/-- and as the launches run at them, the third's output window held to its relation. -/
def rdats : (p : Fin 3) → (c : Dev nD) → RDat τ (Elt F) Unit ℕ (UR sig nD τ) ℕ (cfgs p) c
  | ⟨0, _⟩ => fun c => (dat0 (fun c b => W1 m c b) c).toR
  | ⟨1, _⟩ => fun c => (dat1 (fun c b => W2 m c b) c).toR
  | ⟨2, _⟩ => rdat2 fun c b => W4 m c b

abbrev Lno : GSem nD τ sig → Finset Unit := fun _ => ∅
abbrev lvno : GSem nD τ sig → Unit → ℕ := fun _ _ => 0

/-- What rides beside the buffers: the generator register and the core's dues, none. -/
abbrev beside (c : Dev nD) : sProp 𝕄 := iprop((∃ r, prngReg c r) ∗ ∃ W, owes (c : Thread nD τ) (0 : CellTallies nD τ sig Unit) W)

-- the library's record is stated over the pinned configuration; matching it takes unfolding plain definitions in a type
set_option backward.isDefEq.respectTransparency.types false in
/-- One launch's record, from the buffers at `A` to the buffers at `B`. -/
def launchRec (p : Fin 3) (win : Pipeline.WinFacts₀ ((pcfgs (F := F)) p).spec)
    (bpos : ∀ w : Fin (Pipeline.pin (pcfgs (F := F)) adm p).W, 0 < ((Pipeline.pin (pcfgs (F := F)) adm p).spec w).block.numel)
    (sw : ∀ (w : Fin (Pipeline.pin (pcfgs (F := F)) adm p).W) (s : Fin ((Pipeline.pin (pcfgs (F := F)) adm p).spec w).nbuf), (((Pipeline.pin (pcfgs (F := F)) adm p).spec w).stage s).IsWhole)
    (hK : ((pcfgs (F := F)) p).pre.K = 0)
    (hbody : ∀ c, (rdats m p c).BodyObligation (defs₀ (F := F)) Variants.none () Set.univ)
    (hΦ : ∀ c t, (rdats m p c).Φ t = Pipeline.ΦA (Pipeline.pin (pcfgs (F := F)) adm p).spec c)
    (howed : ∀ c t, (rdats m p c).owed t = 0) (hrec : ∀ c t, (rdats m p c).recorded t = Set.univ)
    (A B : Dev nD → Valuation τ sig (Elt F))
    (hsplit : ∀ c, (unscopedBufs c (fun b => A c b) : sProp 𝕄) ⊢ iprop((rdats m p c).arrays (rdats m p c).A ∗ Pipeline.unscopedRest (Pipeline.pin (pcfgs (F := F)) adm p).spec c (fun b => A c b)))
    (hjoin : ∀ c, iprop((rdats m p c).arraysAt (Pipeline.pin (pcfgs (F := F)) adm p).N ∗ Pipeline.unscopedRest (Pipeline.pin (pcfgs (F := F)) adm p).spec c (fun b => A c b))
      ⊢ (unscopedBufs c (fun b => B c b) : sProp 𝕄)) :
    Pipeline.RDat.RegionSeg (pcfgs (F := F)) adm (rdats m) () (defs₀ (F := F)) Variants.none Lno lvno p where
  win := win
  block_pos := bpos
  stage_whole := sw
  K := PEmpty
  osem k := k.elim
  ho := Pipeline.OwnSemFacts.none _
  hbody := hbody
  hwaits := Pipeline.RDat.hwaits_of_owed_zero _ _ _ _ Lno lvno p howed
  pre c := iprop(unscopedBufs c (fun b => A c b) ∗ beside c)
  post c := iprop(unscopedBufs c (fun b => B c b) ∗ beside c)
  X c := iprop(∃ r, prngReg c r)
  Y c := iprop(∃ r, prngReg c r)
  Z c := Pipeline.unscopedRest (Pipeline.pin (pcfgs (F := F)) adm p).spec c (fun b => A c b)
  hentry c := by
    rw [Pipeline.ownSems0_none]
    iintro ⟨⟨Hub, Hp, HO⟩, -, -⟩
    ihave H := (hsplit c) $$ Hub
    icases H with ⟨Ha, Hrest⟩
    imodintro
    isplitl [Ha]; · iexact Ha
    isplitr
    · unfold Pipeline.prefHeld
      haveI : IsEmpty (Fin ((pcfgs (F := F)) p).pre.K) := by rw [hK]; infer_instance
      rw [Finset.univ_eq_empty, BI.bigSep_empty]; iempintro
    isplitl [HO]
    · unfold Pipeline.RDat.owesAt Pipeline.owesWithin Pipeline.RDat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (hjoin c); isplitl [Ha] <;> iassumption
    isplitl [HY]; · iexact HY
    unfold Pipeline.RDat.owesAt Pipeline.owesWithin
    rw [howed c (Fin.last _)]
    icases HO with ⟨%W, -, HO⟩; iexists W; iexact HO

set_option backward.isDefEq.respectTransparency.types false in
/-- The first launch. -/
def rec0 : Pipeline.RDat.RegionSeg (pcfgs (F := F)) adm (rdats m) () (defs₀ (F := F)) Variants.none Lno lvno 0 :=
  launchRec m 0 launch0.win.to₀ launch0.block_pos launch0.stage_whole rfl (fun c => (body0 (fun c b => W1 m c b) c).loose.toR) (fun _ _ => rfl) (fun _ _ => rfl) (fun _ _ => rfl)
    (W1 m) (W2 m)
    (fun c => Pipeline.arrays_of_unscopedBufs (p := 0) (pcfgs (F := F)) adm (dats m) launch0.win launch0.arr_whole c ((dats m 0 c).share_full fun _ => rfl) (fun b => W1 m c b) fun w => show (dat0 (fun c b => W1 m c b) c).A w = _ from A0_eq (fun c b => W1 m c b) c w)
    (fun c => (sep_mono ((dats m 0 c).toR_arraysAt_post _) .rfl).trans
      (Pipeline.unscopedBufs_of_arrays (p := 0) (pcfgs (F := F)) adm (Ix := Unit) (Name := ℕ) (U := UR sig nD τ) (Lvl := ℕ) launch0.win launch0.arr_whole c
        (dats m) ((dats m 0 c).share_full fun _ => rfl) (fun b => W1 m c b) (fun b => W2 m c b) ((dats m 0 c).arrAt · cfg0.N)
        (fun w => fin0 m c w)
        (fun b hb => W2_off m c b (fun h => hb (h ▸ Finset.mem_image.mpr ⟨3, Finset.mem_univ _, rfl⟩)) (fun h => hb (h ▸ Finset.mem_image.mpr ⟨4, Finset.mem_univ _, rfl⟩)))))

set_option backward.isDefEq.respectTransparency.types false in
/-- The second launch. -/
def rec1 : Pipeline.RDat.RegionSeg (pcfgs (F := F)) adm (rdats m) () (defs₀ (F := F)) Variants.none Lno lvno 1 :=
  launchRec m 1 launch1.win.to₀ launch1.block_pos launch1.stage_whole rfl (fun c => (body1 (fun c b => W2 m c b) c).loose.toR) (fun _ _ => rfl) (fun _ _ => rfl) (fun _ _ => rfl)
    (W2 m) (W3 m)
    (fun c => Pipeline.arrays_of_unscopedBufs (p := 1) (pcfgs (F := F)) adm (dats m) launch1.win launch1.arr_whole c ((dats m 1 c).share_full fun _ => rfl) (fun b => W2 m c b) fun w => show (dat1 (fun c b => W2 m c b) c).A w = _ from A1_eq (fun c b => W2 m c b) c w)
    (fun c => (sep_mono ((dats m 1 c).toR_arraysAt_post _) .rfl).trans
      (Pipeline.unscopedBufs_of_arrays (p := 1) (pcfgs (F := F)) adm (Ix := Unit) (Name := ℕ) (U := UR sig nD τ) (Lvl := ℕ) launch1.win launch1.arr_whole c
        (dats m) ((dats m 1 c).share_full fun _ => rfl) (fun b => W2 m c b) (fun b => W3 m c b) ((dats m 1 c).arrAt · cfg1.N)
        (fun w => fin1 m c w)
        (fun b hb => W3_off m c b (fun h => hb (h ▸ Finset.mem_image.mpr ⟨1, Finset.mem_univ _, rfl⟩)))))

/-- What the third launch's arrays may hold in the end, as the exact data name it. -/
theorem arrays2_end (c : Dev nD) : ((rdat2 (fun c b => W4 m c b) c).arraysAt cfg2.N : sProp 𝕄)
    ⊢ (dat2 (fun c b => W4 m c b) c).arrays ((dat2 (fun c b => W4 m c b) c).arrAt · cfg2.N) := by
  unfold Pipeline.RDat.arraysAt Pipeline.Dat.arrays
  refine Idealize.SL.BI.bigSep_mono fun w _ => ?_
  show iprop(∃ G, ⌜(rdat2 (fun c b => W4 m c b) c).ArrAt w cfg2.N G⌝ ∗ (cfg2.win w).arr.view.loc (c.tc : Thread nD τ) ↦[(cfg2.win w).arr.view.set]{(dat2 (fun c b => W4 m c b) c).share w} G)
    ⊢ (((cfg2.win w).arr.view.loc (c.tc : Thread nD τ) ↦[(cfg2.win w).arr.view.set]{(dat2 (fun c b => W4 m c b) c).share w} (dat2 (fun c b => W4 m c b) c).arrAt w cfg2.N) : sProp 𝕄)
  iintro ⟨%G, %hG, H⟩
  rw [arr2_end _ c w G hG]
  iexact H

set_option backward.isDefEq.respectTransparency.types false in
/-- The third launch: three of its windows read one array, each at its share of it. -/
def rec2 : Pipeline.RDat.RegionSeg (pcfgs (F := F)) adm (rdats m) () (defs₀ (F := F)) Variants.none Lno lvno 2 :=
  launchRec m 2 winFacts₀2 block_pos2 stage_whole2 rfl (fun c => (body2 (fun c b => W4 m c b) c).toRRel) (fun _ _ => rfl) (fun _ _ => rfl) (fun _ _ => rfl)
    (W4 m) (W5 m)
    (fun c => Pipeline.arrays_of_unscopedBufs_shared (p := 2) (pcfgs (F := F)) adm (dats m) winFacts₀2 sharedIn2 arr_whole2 c (fun _ _ => rfl) (fun b => W4 m c b) fun w => show (dat2 (fun c b => W4 m c b) c).A w = _ from A2_eq (fun c b => W4 m c b) c w)
    (fun c => (sep_mono (arrays2_end m c) .rfl).trans
      (Pipeline.unscopedBufs_of_arrays_shared (p := 2) (pcfgs (F := F)) adm (Ix := Unit) (Name := ℕ) (U := UR sig nD τ) (Lvl := ℕ) winFacts₀2 sharedIn2 arr_whole2 c
        (dats m) (fun _ _ => rfl) (fun b => W4 m c b) (fun b => W5 m c b) ((dats m 2 c).arrAt · cfg2.N)
        (fun w => fin2 m c w)
        (fun b hb => W5_off m c b (fun h => hb (h ▸ Finset.mem_image.mpr ⟨6, Finset.mem_univ _, rfl⟩)) (fun h => hb (h ▸ Finset.mem_image.mpr ⟨7, Finset.mem_univ _, rfl⟩)))))

/-! ## The program as segments -/

/-- A stretch of host operations from the buffers at `A`. -/
def hostSeg (ops : List (HloOp τ sig (Elt F))) (hsub : ops.Forall fun op => op.bufs ⊆ StableHlo.tcRefs τ sig) (hfr : ops.Forall fun op => op.fresh = ∅)
    (A : Dev nD → Valuation τ sig (Elt F)) : Pipeline.HostSeg (Ix := Unit) (Name := ℕ) (U := UR sig nD τ) (Lvl := ℕ) (pcfgs (F := F)) (defs₀ (F := F)) Variants.none Lno lvno :=
  Pipeline.HostSeg.ofOps _ _ _ _ _ (Pipeline.ucRefs τ sig) ops
    (fun op h => Pipeline.sub_ucRefs op ((List.forall_iff_forall_mem.mp hsub) op h))
    (fun op h => (List.forall_iff_forall_mem.mp hfr) op h) A beside

abbrev items : List (Pipeline.RDat.Seg (pcfgs (F := F)) adm (rdats m) () (defs₀ (F := F)) Variants.none Lno lvno) :=
  [.host (hostSeg hostOps0 hostOps0_sub hostOps0_fresh (V0 m)), .region (rec0 m), .region (rec1 m),
    .host (hostSeg hostOps2 hostOps2_sub hostOps2_fresh (W3 m)), .region (rec2 m), .host (hostSeg hostOps3 hostOps3_sub hostOps3_fresh (W5 m))]

/-- The buffers held, in the two forms the host stretches and the launches speak of them. -/
theorem held_eq (c : Dev nD) (A : Valuation τ sig (Elt F)) : (unscopedBufs c (fun b => A b) : sProp 𝕄) = StableHlo.held (c : Thread nD τ) (Pipeline.ucRefs τ sig) A :=
  Pipeline.unscopedBufs_held c A

set_option backward.isDefEq.respectTransparency.types false in
/-- From any memory with zero counters the program ends, with every unscoped buffer at `W6` and every counter at zero. -/
theorem run_main (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = W6 m c b) ∧ r.2.sem = fun _ => 0) := by
  refine Pipeline.RDat.θ_run_regions_kit_dev_sems (pcfgs (F := F)) adm (rdats m) () cellOf_inj emb₁ (defs₀ (F := F)) Variants.none Lno lvno m ρ main
    (fun _ => items m)
    (fun c Q => by
      rewrite [main_chain c, Pipeline.RDat.Seg.run_eq_chain,
        show (items m).map Pipeline.RDat.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [items, Pipeline.RDat.Seg.pipes_host, Pipeline.RDat.Seg.pipes_region, Pipeline.RDat.Seg.pipes_nil]; decide)
    (O₀ := 0) (hL := fun _ _ => rfl) (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => StableHlo.held (c : Thread nD τ) (Pipeline.ucRefs τ sig) (W6 m c))
    (hch := fun c => ⟨.rfl,
      sep_mono (Entails.of_eq (held_eq c _).symm) .rfl,
      .rfl,
      sep_mono (Entails.of_eq (held_eq c _)) .rfl,
      sep_mono (Entails.of_eq (held_eq c _).symm) .rfl,
      sep_mono (Entails.of_eq (held_eq c _)) .rfl,
      sep_mono .rfl (by iintro ⟨-, H⟩; iexact H)⟩)
    (hinit := by
      refine Pipeline.initEach Lno lvno fun c => ?_
      rw [show unscopedBufs c (fun b => m ((c : Thread nD τ).loc b)) = StableHlo.held (c : Thread nD τ) (Pipeline.ucRefs τ sig) (V0 m c) from held_eq c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b : Ref sig .tc, b.isScoped = false → s.mem ((c.tc : Thread nD τ).loc b) = W6 m c b)
    (hfin := fun c s' => by
      unfold StableHlo.held
      iintro ⟨Hh, HSI⟩
      ihave Hr := (pointsTo_read_all (Pipeline.ucRefs τ sig) (fun b => ((c : Thread nD τ).1, b)) (W6 m c) s') $$ [Hh HSI]
      · isplitl [Hh] <;> iassumption
      icases Hr with ⟨%h, HSI⟩
      imodintro
      isplitr
      · ipureintro
        exact fun b hb => h (Proc.devRef .tc b) (Finset.mem_filter.mpr ⟨StableHlo.devRef_mem_tcRefs b, fun h' => Bool.false_ne_true (hb.symm.trans h')⟩)
      · iexact HSI)
    (hQ := fun _ h hz => ⟨h, funext fun g => hz g (.inr (regions_no_unscoped g.2))⟩)

end Cert.Proof.Qkv
-- ==== Proof.Frames.lean ====
/- The frames: each program ends, faults nowhere, leaves its arguments as they were and every
   semaphore at zero. -/
module

public import proofs.«01_k».proof.Proof.Same
public import proofs.«01_k».proof.Proof.Launch
public import proofs.«01_k».proof.Proof.Gen.ReferenceIdeal.Run

@[expose] public section

noncomputable section

namespace Cert.Proof.Qkv

open Idealize.ShloMosaic Idealize.SL.Sem
open Cert.KernelIdeal Cert.KernelIdeal.Gen

variable {F : FTy → Type} [FloatOps F]
variable (m : (ℓ : Loc nD τ sig) → Buf (Elt F) ℓ) (ρ : Dev nD → PrngReg)

/-- The arguments end as they began, and the counters are zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c main_arg0 rfl).trans (W6_arg m c main_arg0 (by decide) (by decide) (by decide) (by decide)),
     (h.1 c main_arg1 rfl).trans (W6_arg m c main_arg1 (by decide) (by decide) (by decide) (by decide)),
     (h.1 c main_arg2 rfl).trans (W6_arg m c main_arg2 (by decide) (by decide) (by decide) (by decide)),
     (h.1 c main_arg3 rfl).trans (W6_arg m c main_arg3 (by decide) (by decide) (by decide) (by decide)),
     (h.1 c main_arg4 rfl).trans (W6_arg m c main_arg4 (by decide) (by decide) (by decide) (by decide))⟩,
    h.2⟩) (run_main m ρ)

end Cert.Proof.Qkv

namespace Cert.Proof

open Idealize.ShloMosaic Idealize.SL.Sem

/-- The frame of the program for exact arithmetic. -/
theorem frame_ideal : Cert.quiescent_KernelIdeal (hKernelIdeal := Cert.KernelIdeal.Gen.facts) :=
  fun m g _ => Qkv.run_frame m g

/-- The frame of the program as compiled: the same text. -/
theorem frame_kernel : Cert.quiescent_Kernel (hKernel := Cert.Kernel.Gen.facts) := by
  intro m g _
  rw [Same.defs_same, Same.main_same]
  exact Qkv.run_frame (F := Bits) m g

/-- The frame of the reference; it has no semaphore. -/
theorem frame_reference :
    Cert.quiescent_ReferenceIdeal (hReferenceIdeal := Cert.ReferenceIdeal.Gen.facts) :=
  fun m g _ => (θ_run _ _ _).mono (fun _ h => ⟨fun c => (h c).2.2, funext fun s => by
    exact congrFun (Idealize.ShloMosaic.sem_eq_zero_of_no_sems (by decide) _) s⟩) (Cert.ReferenceIdeal.Value.run m g)

end Cert.Proof

end
-- ==== Proof.Pay.lean ====
/- What the kernels store, read at one element in exact arithmetic. -/
module

public import proofs.«01_k».proof.Proof.Run0
public import proofs.«01_k».proof.Proof.Run2
public import Idealize.ShloMosaic.Lib.Pointwise
public import Idealize.ShloMosaic.PureOps.Ideal
public import Idealize.ShloMosaic.Lib.WordCmp

@[expose] public section

set_option maxRecDepth 16384

noncomputable section

namespace Cert.Proof.Qkv

open Idealize.ShloMosaic Idealize.SL.Sem
open Cert.KernelIdeal Cert.KernelIdeal.Gen

/-- A block of projections that is rounded before the product. -/
theorem kv_at (a : Vec Ideal S512x1024 .f32) (x : Vec Ideal S2048x1024 .f32) (b : Vec Ideal S512x1 .f32)
    (r : Fin 512) (n : Fin 2048) :
    k0_pay1 (F := Ideal) a x b (ix2 r n) = (∑ k : Fin 1024, a (ix2 r k) * x (ix2 n k)) + b (ix2 r 0) := by
  pointwise! [k0_pay1]

/-- A block of projections taken in full width. -/
theorem q_at (a : Vec Ideal S512x1024 .f32) (x : Vec Ideal S2048x1024 .f32) (b : Vec Ideal S512x1 .f32)
    (r : Fin 512) (n : Fin 2048) :
    k0_pay4 (F := Ideal) a x b (ix2 r n) = (∑ k : Fin 1024, a (ix2 r k) * x (ix2 n k)) + b (ix2 r 0) := by
  pointwise! [k0_pay4]

/-- The exponential of a scaled logit. -/
theorem e_at (q : Vec Ideal S64x1024 .f32) (k : Vec Ideal S64x2048 .f32) (n : Fin 1024) (j : Fin 2048) :
    k2_pay3 (F := Ideal) q k (ix2 n j) =
      FloatOps.exp (F := Ideal) ((∑ d : Fin 64, q (ix2 d n) * k (ix2 d j)) * Ideal.ofBits .f32 0x3E000000#32) := by
  pointwise [k2_pay3]

theorem inv_at (q : Vec Ideal S64x1024 .f32) (k : Vec Ideal S64x2048 .f32) (n : Fin 1024) :
    k2_pay4 (F := Ideal) q k (ix2 n 0) =
      Ideal.div 1 (∑ j : Fin 2048, k2_pay3 (F := Ideal) q k (ix2 n j)) := by
  pointwise [k2_pay4]

theorem attn_at (q : Vec Ideal S64x1024 .f32) (k : Vec Ideal S64x2048 .f32) (n : Fin 1024) (j : Fin 2048) :
    k2_pay6 (F := Ideal) q k (ix4 0 0 n j) =
      k2_pay3 (F := Ideal) q k (ix2 n j) * k2_pay4 (F := Ideal) q k (ix2 n 0) := by
  pointwise! [k2_pay6, k2_pay5]

theorem out_at (q : Vec Ideal S64x1024 .f32) (k v : Vec Ideal S64x2048 .f32) (y : Vec Ideal S1024x1024 .f32)
    (w : Vec Ideal S64x1024 .f32) (n e : Fin 1024) :
    k2_pay7 (F := Ideal) q k v y w (ix2 n e) =
      y (ix2 n e) + ∑ d : Fin 64, ((∑ j : Fin 2048, k2_pay3 (F := Ideal) q k (ix2 n j) * v (ix2 d j))
        * k2_pay4 (F := Ideal) q k (ix2 n 0)) * w (ix2 d e) := by
  pointwise! [k2_pay7, k2_pay5]

theorem bias_at (b : Vec Ideal S1x1024 .f32) (n e : Fin 1024) :
    k2_pay1 (F := Ideal) b (ix2 n e) = b (ix2 0 e) := by
  pointwise! [k2_pay1]

theorem zero_at (n : Fin 1024) (j : Fin 2048) : k2_pay2 (F := Ideal) (ix4 0 0 n j) = 0 := by
  pointwise! [k2_pay2]

theorem zeros_at (h : Fin 16) : k0_pay2 (F := Ideal) (ix2 0 h) = 0 := by
  pointwise! [k0_pay2]

/-- The head that a row of queries belongs to, as the kernel computes it. -/
theorem head_at (t : Fin 2) (r : Fin 512) (h : Fin 16) :
    k0_pay6 (BitVec.ofNat 32 t.val) (ix2 r h) = BitVec.ofNat 32 ((t.val * 512 + r.val) / 64) := by
  pointwise [k0_pay6]
  clear h
  revert r
  revert t
  decide +kernel

/-- A comparison turned into a number. -/
theorem num_of_eq (a b : BitVec 32) :
    FloatOps.sitofp (F := Ideal) FTy.f32 (BitVec.setWidth 32 (IntOp.cmpi CmpIPredicate.eq a b)) = if a = b then 1 else 0 := by
  rw [Idealize.ShloMosaic.WordCmp.cmpi_eq_eq]
  show (((BitVec.setWidth 32 (BitVec.ofBool (decide (a = b)))).toInt : ℝ) : EReal) = _
  by_cases h : a = b
  · rw [if_pos h, decide_eq_true h]
    simp
  · rw [if_neg h, decide_eq_false h]
    simp

theorem step_at (i : grid0.Coords) (x0 : Vec Ideal S512x1024 .f32) (x1 : Vec Ideal S2048x1024 .f32)
    (x2 : Vec Ideal S512x1 .f32) (s : Vec Ideal S1x16 .f32) (h : Fin 16) :
    scoreStep i x0 x1 x2 s (ix2 0 h) = s (ix2 0 h) + ∑ r : Fin 512,
      (∑ n : Fin 2048, k0_pay4 (F := Ideal) x0 x1 x2 (ix2 r n) * k0_pay4 (F := Ideal) x0 x1 x2 (ix2 r n))
        * (if k0_pay6 (BitVec.ofNat 32 (i 0).val) (ix2 r h) = BitVec.ofNat 32 h.val then 1 else 0) := by
  unfold scoreStep
  pointwise [k0_pay3, k0_pay5]
  simp only [num_of_eq]

/-- A sum of words that are one where `p` holds is the number of places where it does. -/
theorem count_words {ι : Type} [DecidableEq ι] (s : Finset ι) (p : ι → Prop) [DecidablePred p] :
    Finset.fold IntOp.addi (0#32) (fun x => if p x then 1#32 else 0#32) s = BitVec.ofNat 32 (s.filter p).card := by
  induction s using Finset.induction_on with
  | empty => rfl
  | insert a s ha ih =>
    rw [Finset.fold_insert ha, ih, Finset.filter_insert]
    by_cases h : p a
    · rw [if_pos h, if_pos h, Finset.card_insert_of_notMem (by simp [ha])]
      show 1#32 + _ = _
      rw [Nat.add_comm, ← BitVec.ofNat_add]
    · rw [if_neg h, if_neg h]
      show 0#32 + _ = _
      exact BitVec.zero_add _

/-- Head `x` comes before head `h`: a larger score, or the same one at a lower place. -/
def Before (s : Fin 16 → EReal) (x h : Fin 16) : Prop := s h < s x ∨ (s x = s h ∧ x < h)

instance (s : Fin 16 → EReal) (x h : Fin 16) : Decidable (Before s x h) := by unfold Before; infer_instance

/-- The number of heads before `h`. -/
def rank (s : Fin 16 → EReal) (h : Fin 16) : ℕ := (Finset.univ.filter fun x => Before s x h).card

/-- The mask is one on the eight heads of lowest rank. -/
theorem mask_at (s : Vec Ideal S1x16 .f32) (h : Fin 16) :
    k1_pay1 (F := Ideal) s (ix2 0 h) = if rank (fun x => s (ix2 0 x)) h < 8 then 1#32 else 0#32 := by
  pointwise [k1_pay1]
  have e : (fun x : Fin 16 => Scalar.select
              (IntOp.ori (BitVec.ofBool (decide (s (ix2 0 h) < s (ix2 0 x))))
                (IntOp.andi (BitVec.ofBool (decide (s (ix2 0 x) = s (ix2 0 h))))
                  (IntOp.cmpi CmpIPredicate.slt (BitVec.ofNat 32 ↑x) (BitVec.ofNat 32 ↑h))))
              1#32 0#32) = fun x => if Before (fun x => s (ix2 0 x)) x h then 1#32 else 0#32 := by
    funext x
    have hl : IntOp.cmpi CmpIPredicate.slt (BitVec.ofNat 32 ↑x) (BitVec.ofNat 32 ↑h) = BitVec.ofBool (decide (x < h)) := by
      clear s; revert x h; decide +kernel
    rw [hl]
    unfold Before
    by_cases h1 : s (ix2 0 h) < s (ix2 0 x) <;> by_cases h2 : s (ix2 0 x) = s (ix2 0 h) <;> by_cases h3 : x < h <;>
      simp [h1, h2, h3] <;> rfl
  refine (congrArg (fun f => BitVec.setWidth 32 (IntOp.cmpi CmpIPredicate.slt
    (Finset.fold IntOp.addi (0#32) f (Finset.univ : Finset (Fin 16))) 8#32)) e).trans ?_
  rw [count_words]
  have hr : (Finset.univ.filter fun x => Before (fun x => s (ix2 0 x)) x h).card < 17 :=
    Nat.lt_succ_of_le ((Finset.card_le_univ _).trans (by decide))
  show _ = if (Finset.univ.filter fun x => Before (fun x => s (ix2 0 x)) x h).card < 8 then _ else _
  generalize (Finset.univ.filter fun x => Before (fun x => s (ix2 0 x)) x h).card = k at hr
  revert k
  decide +kernel

end Cert.Proof.Qkv

end
-- ==== Proof.Vals0.lean ====
/- The arrays the first two launches leave, read at one element in exact arithmetic. -/
module

public import proofs.«01_k».proof.Proof.Pay
public import proofs.«01_k».proof.Proof.Reg0
public import proofs.«01_k».proof.Proof.Reg1
public import Idealize.ShloMosaic.Lib.Pipeline.ValueKit

@[expose] public section

set_option maxRecDepth 16384

noncomputable section

namespace Cert.Proof.Qkv

open Idealize.ShloMosaic Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The projections: row `r` of the weights against row `n` of the input, and the bias. -/
def proj (a : Vec Ideal S3072x1024 .f32) (x : Vec Ideal S2048x1024 .f32) (b : Vec Ideal S3072x1 .f32)
    (r : Fin 3072) (n : Fin 2048) : EReal :=
  (∑ k : Fin 1024, a (ix2 r k) * x (ix2 n k)) + b (ix2 r 0)

theorem idx0 : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, win0_0.index t = ![t.val, 0] ∧ win0_1.index t = ![0, 0]
    ∧ win0_2.index t = ![t.val, 0] ∧ win0_3.index t = ![t.val, 0])

theorem lt0 (t : Fin cfg0.N) : t.val < 6 := by have := t.isLt; have e : cfg0.N = 6 := N_0; omega

/-- Row `r` of the block of point `t`. -/
def rowOf (t : Fin cfg0.N) (r : Fin 512) : Fin 3072 := ⟨t.val * 512 + r.val, by have := lt0 t; omega⟩

theorem blk0_0 (c : Dev nD) (t : Fin cfg0.N) (r : Fin 512) (k : Fin 1024) :
    (blk0 V c 0 t : Vec Ideal S512x1024 .f32) (ix2 r k) = (V c main_arg1 : Vec Ideal S3072x1024 .f32) (ix2 (rowOf t r) k) := by
  blk_ext [blk0, rowOf, (idx0 t).1]

theorem blk0_1 (c : Dev nD) (t : Fin cfg0.N) (n : Fin 2048) (k : Fin 1024) :
    (blk0 V c 1 t : Vec Ideal S2048x1024 .f32) (ix2 n k) = (V c main_v0 : Vec Ideal S2048x1024 .f32) (ix2 n k) := by
  blk_ext [blk0, rowOf, (idx0 t).2.1]

theorem blk0_2 (c : Dev nD) (t : Fin cfg0.N) (r : Fin 512) :
    (blk0 V c 2 t : Vec Ideal S512x1 .f32) (ix2 r 0) = (V c main_v1 : Vec Ideal S3072x1 .f32) (ix2 (rowOf t r) 0) := by
  blk_ext [blk0, rowOf, (idx0 t).2.2.1]

/-- What a point stores is its block of projections. -/
theorem rows0_at (c : Dev nD) (t : Fin cfg0.N) (r : Fin 512) (n : Fin 2048) :
    rows0 V c t (ix2 r n) = proj (V c main_arg1) (V c main_v0) (V c main_v1) (rowOf t r) n := by
  unfold rows0 proj
  split
  · rw [q_at, blk0_2]; simp only [blk0_0, blk0_1]
  · rw [kv_at, blk0_2]; simp only [blk0_0, blk0_1]

/-- Where an element of the block of point `t` lies in the array. -/
theorem emb0_3 (t : Fin cfg0.N) (r : Fin 512) (n : Fin 2048) :
    (win0_3.blk t).view.emb (ix2 r n) = (ix2 (rowOf t r) n : S3072x2048.Idx) := by
  have e := (idx0 t).2.2.2
  blk_ext [rowOf, e]

/-- The projections' array after the first launch. -/
theorem qkvt_end (c : Dev nD) : (dat0 V c).arrAt 3 cfg0.N
    = (fun i => proj (V c main_arg1) (V c main_v0) (V c main_v1) (i 0) (i 1) : Vec Ideal S3072x2048 .f32) := by
  refine (dat0 V c).arrAt_eq_of_covers 3 _ (by decide +kernel) fun t hf y => ?_
  idx_vars y
  blk_simp
  rw [after0_3]
  refine (rows0_at V c t y0 y1).trans ?_
  exact (congrArg (fun i : S3072x2048.Idx => proj (V c main_arg1) (V c main_v0) (V c main_v1) (i 0) (i 1)) (emb0_3 t y0 y1)).symm

/-! ## The scores -/

/-- Row `d` of head `h` among the queries, the keys and the values. -/
def qrow (h : Fin 16) (d : Fin 64) : Fin 3072 := ⟨h.val * 64 + d.val, by omega⟩
def krow (h : Fin 16) (d : Fin 64) : Fin 3072 := ⟨(16 + h.val) * 64 + d.val, by omega⟩
def vrow (h : Fin 16) (d : Fin 64) : Fin 3072 := ⟨(32 + h.val) * 64 + d.val, by omega⟩

/-- The score of a head: the sum of the squares of its queries. -/
def score (P : Fin 3072 → Fin 2048 → EReal) (h : Fin 16) : EReal :=
  ∑ d : Fin 64, ∑ n : Fin 2048, P (qrow h d) n * P (qrow h d) n

/-- Two runs of 512 rows, each keeping the rows of one head, sum to the head's 64 rows. -/
theorem pool_sum (A : ℕ → EReal) (h : ℕ) (hh : h < 16) :
    (∑ r : Fin 512, A r.val * (if (r.val) / 64 = h then 1 else 0))
      + (∑ r : Fin 512, A (512 + r.val) * (if (512 + r.val) / 64 = h then 1 else 0)) = ∑ d : Fin 64, A (h * 64 + d.val) := by
  rw [Fin.sum_univ_eq_sum_range (fun r => A r * (if r / 64 = h then 1 else 0)) 512,
    Fin.sum_univ_eq_sum_range (fun r => A (512 + r) * (if (512 + r) / 64 = h then 1 else 0)) 512,
    ← Finset.sum_range_add (fun r => A r * (if r / 64 = h then 1 else 0)) 512 512,
    Fin.sum_univ_eq_sum_range (fun d => A (h * 64 + d)) 64]
  simp only [mul_ite, mul_one, mul_zero]
  rw [← Finset.sum_filter]
  refine Finset.sum_nbij' (fun r => r - h * 64) (fun d => h * 64 + d) ?_ ?_ ?_ ?_ ?_
  · intro r hr; simp only [Finset.mem_filter, Finset.mem_range] at hr ⊢; omega
  · intro d hd; simp only [Finset.mem_filter, Finset.mem_range] at hd ⊢; omega
  · intro r hr; simp only [Finset.mem_filter, Finset.mem_range] at hr; omega
  · intro d hd; omega
  · intro r hr; simp only [Finset.mem_filter, Finset.mem_range] at hr; congr 1; omega

theorem word_head (a h : ℕ) (ha : a < 2 ^ 32) (hh : h < 2 ^ 32) : (BitVec.ofNat 32 a = BitVec.ofNat 32 h) ↔ a = h := by
  rw [← BitVec.toNat_inj, BitVec.toNat_ofNat, BitVec.toNat_ofNat, Nat.mod_eq_of_lt ha, Nat.mod_eq_of_lt hh]

/-- What one block of query rows adds to a head's score. -/
theorem step_rows (c : Dev nD) (t : Fin cfg0.N) (u : Fin 2) (hu : (grid0.coords t 0).val = u.val) (ht : t.val = u.val)
    (s : Vec Ideal S1x16 .f32) (h : Fin 16) :
    scoreStep (grid0.coords t) (blk0 V c 0 t) (blk0 V c 1 t) (blk0 V c 2 t) s (ix2 0 h)
      = s (ix2 0 h) + ∑ r : Fin 512, (∑ n : Fin 2048, proj (V c main_arg1) (V c main_v0) (V c main_v1) (rowOf t r) n
          * proj (V c main_arg1) (V c main_v0) (V c main_v1) (rowOf t r) n) * (if (u.val * 512 + r.val) / 64 = h.val then 1 else 0) := by
  have hrow : ∀ r n, k0_pay4 (F := Ideal) (blk0 V c 0 t) (blk0 V c 1 t) (blk0 V c 2 t) (ix2 r n)
      = proj (V c main_arg1) (V c main_v0) (V c main_v1) (rowOf t r) n := fun r n => by
    rw [← rows0_at]; unfold rows0; rw [if_pos (by omega)]
  rw [step_at]
  simp only [hrow, hu, head_at]
  have hw : ∀ r : Fin 512, (BitVec.ofNat 32 ((u.val * 512 + r.val) / 64) = BitVec.ofNat 32 h.val) ↔ (u.val * 512 + r.val) / 64 = h.val :=
    fun r => word_head _ _ (by have := u.isLt; have := r.isLt; omega) (by omega)
  simp only [hw]

/-- The scores after every block of query rows. -/
theorem score1_at (c : Dev nD) (h : Fin 16) :
    score1 V c (ix2 0 h) = score (proj (V c main_arg1) (V c main_v0) (V c main_v1)) h := by
  unfold score1 score0
  rw [step_rows V c t0_1 1 (by decide) rfl, step_rows V c t0_0 0 (by decide) rfl, zeros_at, zero_add]
  let A : ℕ → EReal := fun r => if hr : r < 3072 then
    ∑ n : Fin 2048, proj (V c main_arg1) (V c main_v0) (V c main_v1) ⟨r, hr⟩ n * proj (V c main_arg1) (V c main_v0) (V c main_v1) ⟨r, hr⟩ n else 0
  have hA : ∀ r : Fin 3072, (∑ n : Fin 2048, proj (V c main_arg1) (V c main_v0) (V c main_v1) r n * proj (V c main_arg1) (V c main_v0) (V c main_v1) r n) = A r.val :=
    fun r => by show _ = dite _ _ _; rw [dif_pos r.isLt]
  unfold score
  simp only [hA]
  rw [show (∑ d : Fin 64, A (qrow h d).val) = ∑ d : Fin 64, A (h.val * 64 + d.val) from rfl, ← pool_sum A h.val h.isLt]
  congr 1

/-- The scores' array after the first launch. -/
theorem scores_end (c : Dev nD) : (dat0 V c).arrAt 4 cfg0.N
    = (fun i => score (proj (V c main_arg1) (V c main_v0) (V c main_v1)) (i 1) : Vec Ideal S1x16 .f32) := by
  refine (dat0 V c).arrAt_eq_of_after_last 4 ⟨5, by show 5 < grid0.N; rw [N_0]; decide⟩ (by decide +kernel) _ fun j => ?_
  idx_vars j
  blk_simp
  obtain rfl : j0 = 0 := Subsingleton.elim _ _
  have e : (dat0 V c).after 4 ⟨5, by show 5 < grid0.N; rw [N_0]; decide⟩ = score1 V c := (after0_4 V c _).trans (if_neg (by decide))
  exact (congrFun e (ix2 0 j1)).trans (score1_at V c j1)

/-! ## The mask -/

theorem idx1 : ∀ t : Fin cfg1.N, win1_0.index t = ![0, 0] := by decide +kernel

theorem blk1_0 (c : Dev nD) (t : Fin cfg1.N) (h : Fin 16) :
    (blk1 V c 0 t : Vec Ideal S1x16 .f32) (ix2 0 h) = (V c main_v2_1 : Vec Ideal S1x16 .f32) (ix2 0 h) := by
  have e := idx1 t
  blk_ext [blk1, e]

/-- The mask after the second launch: a head is kept when fewer than eight come before it. -/
theorem mask_end (c : Dev nD) : (dat1 V c).arrAt 1 cfg1.N
    = (fun i => if rank (fun x => (V c main_v2_1 : Vec Ideal S1x16 .f32) (ix2 0 x)) (i 1) < 8 then 1#32 else 0#32 : Vec Ideal S1x16 .i32) := by
  refine (dat1 V c).arrAt_eq_of_after_last 1 ⟨0, by decide⟩ (by decide +kernel) _ fun j => ?_
  idx_vars j
  blk_simp
  obtain rfl : j0 = 0 := Subsingleton.elim _ _
  have e : (dat1 V c).after 1 ⟨0, by decide⟩ = k1_pay1 (blk1 V c 0 ⟨0, by decide⟩) := after1_1 V c _
  refine (congrFun e (ix2 0 j1)).trans ((mask_at _ _).trans ?_)
  simp only [blk1_0]
  rfl

end Cert.Proof.Qkv

end
-- ==== Proof.Vals2.lean ====
/- The arrays the third launch leaves, read at one element in exact arithmetic. -/
module

public import proofs.«01_k».proof.Proof.Vals0
public import proofs.«01_k».proof.Proof.Reg2

@[expose] public section

set_option maxRecDepth 16384

noncomputable section

namespace Cert.Proof.Qkv

open Idealize.ShloMosaic Idealize.ShloMosaic.TcCoe Idealize.SL.Sem
open Cert.KernelIdeal Cert.KernelIdeal.Gen
open Idealize.ShloMosaic.Pipeline (Dat Cfg Window)

/-! ## One head's attention -/

/-- The exponential of the scaled product of query `n` and key `j` of head `h`. -/
def ex (P : Fin 3072 → Fin 2048 → EReal) (h : Fin 16) (n j : Fin 2048) : EReal :=
  FloatOps.exp (F := Ideal) (φ := .f32) ((∑ d : Fin 64, P (qrow h d) n * P (krow h d) j) * Ideal.ofBits .f32 0x3E000000#32)

/-- One over the sum of a row's exponentials. -/
def inv (P : Fin 3072 → Fin 2048 → EReal) (h : Fin 16) (n : Fin 2048) : EReal := Ideal.div 1 (∑ j : Fin 2048, ex P h n j)

/-- A row of attention against the values of the head. -/
def mix (P : Fin 3072 → Fin 2048 → EReal) (h : Fin 16) (n : Fin 2048) (d : Fin 64) : EReal :=
  (∑ j : Fin 2048, ex P h n j * P (vrow h d) j) * inv P h n

variable (V : (c : Dev nD) → (b : Ref sig .tc) → Buf (Elt Ideal) ((c : Thread nD τ).loc b))

/-! ## The blocks -/

theorem idx2 : ∀ t : Fin cfg2.N, win2_0.index t = ![0, 0] ∧ win2_1.index t = ![t.val / 2, t.val % 2]
    ∧ win2_2.index t = ![16 + t.val / 2, 0] ∧ win2_3.index t = ![32 + t.val / 2, 0] ∧ win2_4.index t = ![t.val / 2, 0]
    ∧ win2_5.index t = ![0, 0] ∧ win2_6.index t = ![0, t.val / 2, t.val % 2, 0] :=
  (by decide +kernel : ∀ t : Fin grid2.N, win2_0.index t = ![0, 0] ∧ win2_1.index t = ![t.val / 2, t.val % 2]
    ∧ win2_2.index t = ![16 + t.val / 2, 0] ∧ win2_3.index t = ![32 + t.val / 2, 0] ∧ win2_4.index t = ![t.val / 2, 0]
    ∧ win2_5.index t = ![0, 0] ∧ win2_6.index t = ![0, t.val / 2, t.val % 2, 0])

theorem lt2 (t : Fin cfg2.N) : t.val < 32 := t.isLt

/-- The head a point works on, and a row of its block of queries. -/
def headOf (t : Fin cfg2.N) : Fin 16 := ⟨t.val / 2, by have := lt2 t; omega⟩
def colOf (t : Fin cfg2.N) (n : Fin 1024) : Fin 2048 := ⟨t.val % 2 * 1024 + n.val, by omega⟩
/-- Row `d` of head `h` among the columns of the output projection. -/
def wrow (h : Fin 16) (d : Fin 64) : Fin 1024 := ⟨h.val * 64 + d.val, by omega⟩

theorem blk2_0 (c : Dev nD) (t : Fin cfg2.N) (h : Fin 16) :
    (blk2 V c 0 t : Vec Ideal S1x16 .i32) (ix2 0 h) = (V c main_v3 : Vec Ideal S1x16 .i32) (ix2 0 h) := by
  have e := (idx2 t).1
  blk_ext [blk2, e]

theorem blk2_1 (c : Dev nD) (t : Fin cfg2.N) (d : Fin 64) (n : Fin 1024) :
    (blk2 V c 1 t : Vec Ideal S64x1024 .f32) (ix2 d n) = (V c main_v2_0 : Vec Ideal S3072x2048 .f32) (ix2 (qrow (headOf t) d) (colOf t n)) := by
  have e := (idx2 t).2.1
  blk_ext [blk2, qrow, headOf, colOf, e]

theorem blk2_2 (c : Dev nD) (t : Fin cfg2.N) (d : Fin 64) (n : Fin 2048) :
    (blk2 V c 2 t : Vec Ideal S64x2048 .f32) (ix2 d n) = (V c main_v2_0 : Vec Ideal S3072x2048 .f32) (ix2 (krow (headOf t) d) n) := by
  have e := (idx2 t).2.2.1
  blk_ext [blk2, krow, headOf, colOf, e]

theorem blk2_3 (c : Dev nD) (t : Fin cfg2.N) (d : Fin 64) (n : Fin 2048) :
    (blk2 V c 3 t : Vec Ideal S64x2048 .f32) (ix2 d n) = (V c main_v2_0 : Vec Ideal S3072x2048 .f32) (ix2 (vrow (headOf t) d) n) := by
  have e := (idx2 t).2.2.2.1
  blk_ext [blk2, vrow, headOf, colOf, e]

theorem blk2_4 (c : Dev nD) (t : Fin cfg2.N) (d : Fin 64) (n : Fin 1024) :
    (blk2 V c 4 t : Vec Ideal S64x1024 .f32) (ix2 d n) = (V c main_v4 : Vec Ideal S1024x1024 .f32) (ix2 (wrow (headOf t) d) n) := by
  have e := (idx2 t).2.2.2.2.1
  blk_ext [blk2, wrow, headOf, colOf, e]

theorem blk2_5 (c : Dev nD) (t : Fin cfg2.N) (n : Fin 1024) :
    (blk2 V c 5 t : Vec Ideal S1x1024 .f32) (ix2 0 n) = (V c main_v5 : Vec Ideal S1x1024 .f32) (ix2 0 n) := by
  have e := (idx2 t).2.2.2.2.2.1
  blk_ext [blk2, e]

theorem off2_1 : ∀ t : Fin cfg2.N, k2_off1 (grid2.coords t) 0 = 0 ∧ k2_off1 (grid2.coords t) 1 = t.val / 2 :=
  (by decide +kernel : ∀ t : Fin grid2.N, k2_off1 (grid2.coords t) 0 = 0 ∧ k2_off1 (grid2.coords t) 1 = t.val / 2)

/-- The word a point branches on is its head's entry of the mask. -/
theorem maskWord_at (c : Dev nD) (t : Fin cfg2.N) :
    maskWord (grid2.coords t) (blk2 V c 0 t) = (V c main_v3 : Vec Ideal S1x16 .i32) (ix2 0 (headOf t)) := by
  rw [← blk2_0 V c t]
  unfold maskWord VecWindow.window
  refine congrArg (blk2 V c 0 t : Vec Ideal S1x16 .i32) (funext fun a => Fin.ext ?_)
  match a with
  | ⟨0, _⟩ => simp [(off2_1 t).1]
  | ⟨1, _⟩ => exact (congrArg (· + 0) (off2_1 t).2)

theorem word_on (w : BitVec 32) : (Scalar.cmpi .ne (Scalar.extui (Scalar.cmpi .ne w 0#32) : BitVec 32) 0#32 = 1#1) ↔ w ≠ 0#32 := by
  have h1 : Scalar.cmpi .ne w 0#32 = BitVec.ofBool (decide (w ≠ 0#32)) := by
    show IntOp.cmpi .ne w 0#32 = _
    exact WordCmp.cmpi_ne_eq _ _
  rw [h1]
  by_cases h : w ≠ 0#32
  · simp only [h, decide_true, ne_eq, not_false_eq_true]; decide
  · simp only [h, decide_false]; decide

theorem maskOn_iff (c : Dev nD) (t : Fin cfg2.N) :
    maskOn (grid2.coords t) (blk2 V c 0 t) ↔ (V c main_v3 : Vec Ideal S1x16 .i32) (ix2 0 (headOf t)) ≠ 0#32 := by
  rw [← maskWord_at V c t]; exact word_on _

/-! ## What a point computes -/

/-- The projections as the third launch finds them. -/
def pj (c : Dev nD) (r : Fin 3072) (n : Fin 2048) : EReal := (V c main_v2_0 : Vec Ideal S3072x2048 .f32) (ix2 r n)

theorem pe_at (c : Dev nD) (t : Fin cfg2.N) (n : Fin 1024) (j : Fin 2048) :
    k2_pay3 (F := Ideal) (blk2 V c 1 t) (blk2 V c 2 t) (ix2 n j) = ex (pj V c) (headOf t) (colOf t n) j := by
  rw [e_at]; simp only [blk2_1, blk2_2]; rfl

theorem pinv_at (c : Dev nD) (t : Fin cfg2.N) (n : Fin 1024) :
    k2_pay4 (F := Ideal) (blk2 V c 1 t) (blk2 V c 2 t) (ix2 n 0) = inv (pj V c) (headOf t) (colOf t n) := by
  rw [inv_at]; simp only [pe_at]; rfl

/-- The block of attention a point writes. -/
theorem attnOut_at (c : Dev nD) (t : Fin cfg2.N) (n : Fin 1024) (j : Fin 2048) :
    attnOut (grid2.coords t) (blk2 V c 0 t) (blk2 V c 1 t) (blk2 V c 2 t) (ix4 0 0 n j)
      = if (V c main_v3 : Vec Ideal S1x16 .i32) (ix2 0 (headOf t)) ≠ 0#32 then
          ex (pj V c) (headOf t) (colOf t n) j * inv (pj V c) (headOf t) (colOf t n) else 0 := by
  unfold attnOut
  by_cases h : maskOn (grid2.coords t) (blk2 V c 0 t)
  · rw [if_pos h, if_pos ((maskOn_iff V c t).mp h), attn_at, pe_at, pinv_at]
  · rw [if_neg h, if_neg ((maskOn_iff V c t).not.mp h), zero_at]

/-- Where an element of the block of point `t` lies in the attention array. -/
theorem emb2_6 (t : Fin cfg2.N) (n : Fin 1024) (j : Fin 2048) :
    (win2_6.blk t).view.emb (ix4 0 0 n j) = (ix4 0 (headOf t) (colOf t n) j : S1x16x2048x2048.Idx) := by
  have e := (idx2 t).2.2.2.2.2.2
  blk_ext [headOf, colOf, e]

/-- The attention at one element. -/
def attnVal (mk : Fin 16 → BitVec 32) (P : Fin 3072 → Fin 2048 → EReal) (h : Fin 16) (n j : Fin 2048) : EReal :=
  if mk h ≠ 0#32 then ex P h n j * inv P h n else 0

/-- The mask as the third launch finds it. -/
def mk (c : Dev nD) (h : Fin 16) : BitVec 32 := (V c main_v3 : Vec Ideal S1x16 .i32) (ix2 0 h)

/-- The attention array after the third launch. -/
theorem attn_end (c : Dev nD) : (dat2 V c).arrAt 6 cfg2.N
    = (fun i => attnVal (mk V c) (pj V c) (i 1) (i 2) (i 3) : Vec Ideal S1x16x2048x2048 .f32) := by
  refine (dat2 V c).arrAt_eq_of_covers 6 _ (by decide +kernel) fun t hf y => ?_
  idx_vars y
  blk_simp
  rw [after2_6]
  obtain rfl : y0 = 0 := Subsingleton.elim _ _
  obtain rfl : y1 = 0 := Subsingleton.elim _ _
  refine (attnOut_at V c t y2 y3).trans ?_
  exact (congrArg (fun i : S1x16x2048x2048.Idx => attnVal (mk V c) (pj V c) (i 1) (i 2) (i 3)) (emb2_6 t y2 y3)).symm

/-! ## The output -/

/-- What head `h` adds to row `n`, column `e` of the output. -/
def part (mk : Fin 16 → BitVec 32) (P : Fin 3072 → Fin 2048 → EReal) (w : Fin 1024 → Fin 1024 → EReal) (n : Fin 2048) (e : Fin 1024)
    (h : Fin 16) : EReal :=
  if mk h ≠ 0#32 then ∑ d : Fin 64, mix P h n d * w (wrow h d) e else 0

/-- The output's bias as the third launch finds it. -/
def bp (c : Dev nD) (e : Fin 1024) : EReal := (V c main_v5 : Vec Ideal S1x1024 .f32) (ix2 0 e)

/-- The output projection as the third launch finds it. -/
def wp (c : Dev nD) (r e : Fin 1024) : EReal := (V c main_v4 : Vec Ideal S1024x1024 .f32) (ix2 r e)

theorem addHead_at (c : Dev nD) (t : Fin cfg2.N) (y : Vec Ideal S1024x1024 .f32) (n e : Fin 1024) :
    addHead V c t y (ix2 n e) = y (ix2 n e) + part (mk V c) (pj V c) (wp V c) (colOf t n) e (headOf t) := by
  unfold addHead part
  by_cases h : maskOn (grid2.coords t) (blk2 V c 0 t)
  · rw [if_pos h, if_pos (show mk V c (headOf t) ≠ 0#32 from (maskOn_iff V c t).mp h), out_at]
    simp only [pe_at, pinv_at, blk2_3, blk2_4]
    rfl
  · rw [if_neg h, if_neg (show ¬ mk V c (headOf t) ≠ 0#32 from (maskOn_iff V c t).not.mp h), add_zero]

/-- The first `k` heads' parts. -/
def heads (f : Fin 16 → EReal) (k : ℕ) : EReal := ∑ g ∈ Finset.range k, if hg : g < 16 then f ⟨g, hg⟩ else 0

theorem heads_succ (f : Fin 16 → EReal) (k : ℕ) (hk : k < 16) : heads f (k + 1) = heads f k + f ⟨k, hk⟩ := by
  unfold heads; rw [Finset.sum_range_succ, dif_pos hk]

theorem heads_zero (f : Fin 16 → EReal) : heads f 0 = 0 := by unfold heads; rw [Finset.sum_range_zero]

theorem heads_all (f : Fin 16 → EReal) : heads f 16 = ∑ h : Fin 16, f h := by
  unfold heads
  rw [← Fin.sum_univ_eq_sum_range (fun g => if hg : g < 16 then f ⟨g, hg⟩ else 0) 16]
  exact Finset.sum_congr rfl fun h _ => dif_pos h.isLt

/-- Half `b` of the rows after head `h`: the bias and what the heads so far add. -/
theorem acc_at (c : Dev nD) (b : ℕ) (hb : b < 2) (n e : Fin 1024) (r : Fin 2048) (hr : r.val = b * 1024 + n.val) : ∀ (h : ℕ) (hh : 2 * h + b < cfg2.N),
    acc V c (2 * h + b) hh (ix2 n e) = bp V c e + heads (part (mk V c) (pj V c) (wp V c) r e) (h + 1) := by
  have key : ∀ (h : ℕ) (hh : 2 * h + b < cfg2.N) (hg : h < 16), part (mk V c) (pj V c) (wp V c) (colOf ⟨2 * h + b, hh⟩ n) e (headOf ⟨2 * h + b, hh⟩)
      = part (mk V c) (pj V c) (wp V c) r e ⟨h, hg⟩ := fun h hh hg =>
    congrArg₂ (fun x y => part (mk V c) (pj V c) (wp V c) x e y) (Fin.ext (by show (2 * h + b) % 2 * 1024 + n.val = _; rw [show (2 * h + b) % 2 = b by omega, hr]))
      (Fin.ext (by show (2 * h + b) / 2 = h; omega))
  intro h
  induction h with
  | zero =>
    intro hh
    have e0 : acc V c (2 * 0 + b) hh = addHead V c ⟨2 * 0 + b, hh⟩ (k2_pay1 (blk2 V c 5 ⟨2 * 0 + b, hh⟩)) := by
      obtain rfl | rfl : b = 0 ∨ b = 1 := by omega
      · rfl
      · rfl
    rw [e0, addHead_at, bias_at, blk2_5, key 0 hh (by omega), heads_succ _ 0 (by omega), heads_zero, zero_add]
    rfl
  | succ h ih =>
    intro hh
    have hN : 2 * (h + 1) + b < 32 := hh
    have e1 : acc V c (2 * (h + 1) + b) hh = addHead V c ⟨2 * (h + 1) + b, hh⟩ (acc V c (2 * h + b) (by omega)) := by
      have e2 : ∀ (k : ℕ) (hk : k < cfg2.N) (hk' : 2 * h + b < cfg2.N), k = 2 * h + b + 2 → acc V c k hk = addHead V c ⟨k, hk⟩ (acc V c (2 * h + b) hk') := by
        rintro k hk hk' rfl; rfl
      exact e2 _ _ _ (by omega)
    rw [e1, addHead_at, ih, key (h + 1) hh (by omega), heads_succ _ (h + 1) (by omega), add_assoc]

theorem acc_last (c : Dev nD) (b : ℕ) (hb : b < 2) (n e : Fin 1024) (r : Fin 2048) (hr : r.val = b * 1024 + n.val) (k : ℕ) (hk : k < cfg2.N) (hkb : k = 2 * 15 + b) :
    acc V c k hk (ix2 n e) = bp V c e + ∑ h : Fin 16, part (mk V c) (pj V c) (wp V c) r e h := by
  subst hkb
  rw [← heads_all]
  exact acc_at V c b hb n e r hr 15 hk

/-- The output in the end at one element. -/
theorem outFinal_at (c : Dev nD) (n : Fin 2048) (e : Fin 1024) :
    outFinal V c (ix2 n e) = bp V c e + ∑ h : Fin 16, part (mk V c) (pj V c) (wp V c) n e h := by
  unfold outFinal
  by_cases h : n.val < 1024
  · rw [dif_pos (show (ix2 n e 0).val < 1024 from h)]
    have ei : (show S1024x1024.Idx from fun a => match a with | ⟨0, _⟩ => ⟨n.val, h⟩ | ⟨1, _⟩ => e) = ix2 ⟨n.val, h⟩ e := by
      funext a; match a with | ⟨0, _⟩ => rfl | ⟨1, _⟩ => rfl
    exact (congrArg (acc V c 30 (by decide)) ei).trans (acc_last V c 0 (by omega) ⟨n.val, h⟩ e n (by show n.val = 0 * 1024 + n.val; omega) 30 _ rfl)
  · rw [dif_neg (show ¬ (ix2 n e 0).val < 1024 from h)]
    have h' : n.val - 1024 < 1024 := by omega
    have ei : (show S1024x1024.Idx from fun a => match a with | ⟨0, _⟩ => ⟨n.val - 1024, h'⟩ | ⟨1, _⟩ => e) = ix2 ⟨n.val - 1024, h'⟩ e := by
      funext a; match a with | ⟨0, _⟩ => rfl | ⟨1, _⟩ => rfl
    exact (congrArg (acc V c 31 (by decide)) ei).trans (acc_last V c 1 (by omega) ⟨n.val - 1024, h'⟩ e n (by show n.val = 1 * 1024 + (n.val - 1024); omega) 31 _ rfl)

/-- The output array after the third launch. -/
theorem out_end (c : Dev nD) : (dat2 V c).arrAt 7 cfg2.N
    = (fun i => bp V c (i 1) + ∑ h : Fin 16, part (mk V c) (pj V c) (wp V c) (i 0) (i 1) h : Vec Ideal S2048x1024 .f32) := by
  refine (dat2 V c).arrAt_eq_of_after_last 7 ⟨31, by decide⟩ (by decide +kernel) _ fun j => ?_
  idx_vars j
  blk_simp
  have e : (dat2 V c).after 7 ⟨31, by decide⟩ = outFinal V c := after2_7 V c _
  exact (congrFun e (ix2 j0 j1)).trans (outFinal_at V c j0 j1)

end Cert.Proof.Qkv

end
-- ==== Proof.Chain.lean ====
/- The kernel's two results, element by element, of the launch arguments. -/
module

public import proofs.«01_k».proof.Proof.Vals2
public import proofs.«01_k».proof.Proof.Frames

@[expose] public section

set_option maxRecDepth 16384

noncomputable section

namespace Cert.Proof.Qkv

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- The arguments at one element. -/
def mx (n : Fin 2048) (k : Fin 1024) : EReal := (m ((c.tc : Thread nD τ).loc main_arg0) : Vec Ideal S1x2048x1024 .f32) (ix3 0 n k)
def mw (r : Fin 3072) (k : Fin 1024) : EReal := (m ((c.tc : Thread nD τ).loc main_arg1) : Vec Ideal S3072x1024 .f32) (ix2 r k)
def mb (r : Fin 3072) : EReal := (m ((c.tc : Thread nD τ).loc main_arg2) : Vec Ideal S3072 .f32) (ix1 r)
def mp (e r : Fin 1024) : EReal := (m ((c.tc : Thread nD τ).loc main_arg3) : Vec Ideal S1024x1024 .f32) (ix2 e r)
def mc (e : Fin 1024) : EReal := (m ((c.tc : Thread nD τ).loc main_arg4) : Vec Ideal S1024 .f32) (ix1 e)

theorem W1_arg (r : Ref sig .tc) (h : r ∉ hostOps0_W) : W1 m c r = m ((c.tc : Thread nD τ).loc r) :=
  StableHlo.after_of_writes_sub hostOps0 _ hostOps0_writes h

theorem W1_v0 : (W1 m c main_v0 : Vec Ideal S2048x1024 .f32) = shapeCast S2048x1024 (m ((c.tc : Thread nD τ).loc main_arg0) : Vec Ideal S1x2048x1024 .f32) shapeCasts_S1x2048x1024_S2048x1024 := by
  unfold W1
  after_results_simp
  rfl

theorem W1_v1 : (W1 m c main_v1 : Vec Ideal S3072x1 .f32) = shapeCast S3072x1 (m ((c.tc : Thread nD τ).loc main_arg2) : Vec Ideal S3072 .f32) shapeCasts_S3072_S3072x1 := by
  unfold W1
  after_results_simp
  rfl

theorem W3_arg (r : Ref sig .tc) (h : r ∉ hostOps0_W) (h0 : r ≠ main_v2_0) (h1 : r ≠ main_v2_1) (h2 : r ≠ main_v3) : W3 m c r = m ((c.tc : Thread nD τ).loc r) :=
  (W3_off m c r h2).trans ((W2_off m c r h0 h1).trans (W1_arg m c r h))

theorem W4_v4 : (W4 m c main_v4 : Vec Ideal S1024x1024 .f32) = transpose S1024x1024 [1, 0] (m ((c.tc : Thread nD τ).loc main_arg3) : Vec Ideal S1024x1024 .f32) transposes_S1024x1024_S1024x1024_1_0 := by
  unfold W4
  after_results_simp
  exact congrArg (fun v : Vec Ideal S1024x1024 .f32 => transpose S1024x1024 [1, 0] v transposes_S1024x1024_S1024x1024_1_0) (W3_arg m c main_arg3 (by decide) (by decide) (by decide) (by decide))

theorem W4_v5 : (W4 m c main_v5 : Vec Ideal S1x1024 .f32) = shapeCast S1x1024 (m ((c.tc : Thread nD τ).loc main_arg4) : Vec Ideal S1024 .f32) shapeCasts_S1024_S1x1024 := by
  unfold W4
  after_results_simp
  exact congrArg (fun v : Vec Ideal S1024 .f32 => shapeCast S1x1024 v shapeCasts_S1024_S1x1024) (W3_arg m c main_arg4 (by decide) (by decide) (by decide) (by decide))

theorem W6_v7 : (W6 m c main_v7 : Vec Ideal S1x2048x1024 .f32) = shapeCast S1x2048x1024 (W5 m c main_v6_1 : Vec Ideal S2048x1024 .f32) shapeCasts_S2048x1024_S1x2048x1024 := by
  unfold W6
  after_results_simp
  rfl

/-- The projections, of the launch arguments. -/
def kproj (r : Fin 3072) (n : Fin 2048) : EReal := (∑ k : Fin 1024, mx m c n k * mw m c r k) + mb m c r

theorem flat_at (v : Vec Ideal S1x2048x1024 .f32) (n : Fin 2048) (k : Fin 1024) : shapeCast S2048x1024 v shapeCasts_S1x2048x1024_S2048x1024 (ix2 n k) = v (ix3 0 n k) := by
  pointwise! []

theorem column_at (v : Vec Ideal S3072 .f32) (r : Fin 3072) : shapeCast S3072x1 v shapeCasts_S3072_S3072x1 (ix2 r 0) = v (ix1 r) := by
  pointwise! []

theorem swap_at (v : Vec Ideal S1024x1024 .f32) (r e : Fin 1024) : transpose S1024x1024 [1, 0] v transposes_S1024x1024_S1024x1024_1_0 (ix2 r e) = v (ix2 e r) := by
  pointwise! []

theorem row_at (v : Vec Ideal S1024 .f32) (e : Fin 1024) : shapeCast S1x1024 v shapeCasts_S1024_S1x1024 (ix2 0 e) = v (ix1 e) := by
  pointwise! []

theorem lift_at (v : Vec Ideal S2048x1024 .f32) (n : Fin 2048) (e : Fin 1024) : shapeCast S1x2048x1024 v shapeCasts_S2048x1024_S1x2048x1024 (ix3 0 n e) = v (ix2 n e) := by
  pointwise! []

theorem v0_at (n : Fin 2048) (k : Fin 1024) : (W1 m c main_v0 : Vec Ideal S2048x1024 .f32) (ix2 n k) = mx m c n k := by
  rw [W1_v0]
  exact flat_at _ n k

theorem v1_at (r : Fin 3072) : (W1 m c main_v1 : Vec Ideal S3072x1 .f32) (ix2 r 0) = mb m c r := by
  rw [W1_v1]
  exact column_at _ r

theorem proj_eq (r : Fin 3072) (n : Fin 2048) : proj (W1 m c main_arg1) (W1 m c main_v0) (W1 m c main_v1) r n = kproj m c r n := by
  unfold proj kproj
  rw [v1_at]
  refine congrArg (· + mb m c r) (Finset.sum_congr rfl fun k _ => ?_)
  rw [v0_at, mul_comm]
  exact congrArg (fun v : Vec Ideal S3072x1024 .f32 => mx m c n k * v (ix2 r k)) (W1_arg m c main_arg1 (by decide))

/-- The valuation the third launch finds. -/
abbrev X4 : (c : Dev nD) → (b : Ref sig .tc) → Buf (Elt Ideal) ((c : Thread nD τ).loc b) := fun c b => W4 m c b

theorem pj_eq : pj (X4 m) c = kproj m c := by
  funext r n
  have e : X4 m c main_v2_0 = (fun i => proj (W1 m c main_arg1) (W1 m c main_v0) (W1 m c main_v1) (i 0) (i 1) : Vec Ideal S3072x2048 .f32) :=
    (W4_off m c main_v2_0 (by decide)).trans ((W3_off m c main_v2_0 (by decide)).trans ((W2_0 m c).trans (qkvt_end (fun c b => W1 m c b) c)))
  exact (congrArg (fun v : Vec Ideal S3072x2048 .f32 => v (ix2 r n)) e).trans (proj_eq m c r n)

theorem scores_eq (x : Fin 16) : (W2 m c main_v2_1 : Vec Ideal S1x16 .f32) (ix2 0 x) = score (kproj m c) x := by
  have e : W2 m c main_v2_1 = (fun i => score (proj (W1 m c main_arg1) (W1 m c main_v0) (W1 m c main_v1)) (i 1) : Vec Ideal S1x16 .f32) :=
    (W2_1 m c).trans (scores_end (fun c b => W1 m c b) c)
  refine (congrArg (fun v : Vec Ideal S1x16 .f32 => v (ix2 0 x)) e).trans ?_
  exact congrArg (fun P => score P x) (funext fun r => funext fun n => proj_eq m c r n)

theorem mk_eq (h : Fin 16) : mk (X4 m) c h = if rank (score (kproj m c)) h < 8 then 1#32 else 0#32 := by
  have e : X4 m c main_v3 = (fun i => if rank (fun x => (W2 m c main_v2_1 : Vec Ideal S1x16 .f32) (ix2 0 x)) (i 1) < 8 then 1#32 else 0#32 : Vec Ideal S1x16 .i32) :=
    (W4_off m c main_v3 (by decide)).trans ((W3_0 m c).trans (mask_end (fun c b => W2 m c b) c))
  refine (congrArg (fun v : Vec Ideal S1x16 .i32 => v (ix2 0 h)) e).trans ?_
  exact congrArg (fun s => if rank s h < 8 then 1#32 else 0#32) (funext fun x => scores_eq m c x)

theorem wp_eq : wp (X4 m) c = fun r e => mp m c e r := by
  funext r e
  refine (congrArg (fun v : Vec Ideal S1024x1024 .f32 => v (ix2 r e)) (W4_v4 m c)).trans ?_
  exact swap_at _ r e

theorem bp_eq (e : Fin 1024) : bp (X4 m) c e = mc m c e := by
  refine (congrArg (fun v : Vec Ideal S1x1024 .f32 => v (ix2 0 e)) (W4_v5 m c)).trans ?_
  exact row_at _ e

/-- The attention in the end. -/
theorem attn_result (h : Fin 16) (n j : Fin 2048) : (W6 m c main_v6_0 : Vec Ideal S1x16x2048x2048 .f32) (ix4 0 h n j)
    = attnVal (fun h => if rank (score (kproj m c)) h < 8 then 1#32 else 0#32) (kproj m c) h n j := by
  have e : W6 m c main_v6_0 = (fun i => attnVal (mk (X4 m) c) (pj (X4 m) c) (i 1) (i 2) (i 3) : Vec Ideal S1x16x2048x2048 .f32) :=
    (W6_off m c main_v6_0 (by decide)).trans ((W5_0 m c).trans (attn_end (X4 m) c))
  refine (congrArg (fun v : Vec Ideal S1x16x2048x2048 .f32 => v (ix4 0 h n j)) e).trans ?_
  rw [pj_eq, show mk (X4 m) c = _ from funext (mk_eq m c)]
  rfl

/-- The output in the end. -/
theorem out_result (n : Fin 2048) (e : Fin 1024) : (W6 m c main_v7 : Vec Ideal S1x2048x1024 .f32) (ix3 0 n e)
    = mc m c e + ∑ h : Fin 16, part (fun h => if rank (score (kproj m c)) h < 8 then 1#32 else 0#32) (kproj m c) (fun r e => mp m c e r) n e h := by
  have e5 : W5 m c main_v6_1 = (fun i => bp (X4 m) c (i 1) + ∑ h : Fin 16, part (mk (X4 m) c) (pj (X4 m) c) (wp (X4 m) c) (i 0) (i 1) h : Vec Ideal S2048x1024 .f32) :=
    (W5_1 m c).trans (out_end (X4 m) c)
  have e7 : (W6 m c main_v7 : Vec Ideal S1x2048x1024 .f32) (ix3 0 n e) = (W5 m c main_v6_1 : Vec Ideal S2048x1024 .f32) (ix2 n e) := by
    rw [W6_v7]
    exact lift_at _ n e
  refine e7.trans ((congrArg (fun v : Vec Ideal S2048x1024 .f32 => v (ix2 n e)) e5).trans ?_)
  rw [pj_eq, wp_eq, show mk (X4 m) c = _ from funext (mk_eq m c)]
  exact congrArg (· + _) (bp_eq m c e)

end Cert.Proof.Qkv

end
-- ==== Proof.Order.lean ====
/- Which heads a stable top-k of sixteen scores takes: those with fewer than eight heads before them. -/
module

public import proofs.«01_k».proof.Proof.Pay
public import Idealize.ShloMosaic.Lib.SortFacts
public import Idealize.ShloMosaic.Lib.Pointwise

@[expose] public section

set_option maxRecDepth 16384

noncomputable section

namespace Cert.Proof.Qkv

open Idealize.ShloMosaic Idealize.SL.Sem

theorem before_irrefl (s : Fin 16 → EReal) (x : Fin 16) : ¬ Before s x x := by
  unfold Before; simp

theorem before_trans (s : Fin 16 → EReal) (x y z : Fin 16) (h : Before s x y) (h' : Before s y z) : Before s x z := by
  unfold Before at *
  rcases h with h | ⟨h, hx⟩ <;> rcases h' with h' | ⟨h', hy⟩
  · exact .inl (h'.trans h)
  · exact .inl (h' ▸ h)
  · exact .inl (h ▸ h')
  · exact .inr ⟨h.trans h', hx.trans hy⟩

theorem before_total (s : Fin 16 → EReal) (x y : Fin 16) (h : x ≠ y) : Before s x y ∨ Before s y x := by
  unfold Before
  rcases lt_trichotomy (s x) (s y) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- "Greater", as the top-k's comparison of two positions. -/
def gtOf (s : Fin 16 → EReal) (x y : Fin 16) : Bool := decide (s y < s x)

theorem insert_pairwise (s : Fin 16 → EReal) (a : Fin 16) (l : List (Fin 16)) (hl : l.Pairwise (Before s)) (ha : ∀ b ∈ l, a < b) :
    (insertBefore (gtOf s) a l).Pairwise (Before s) := by
  induction l with
  | nil => exact List.pairwise_singleton _ _
  | cons b l ih =>
    rw [List.pairwise_cons] at hl
    unfold insertBefore
    split
    · rename_i h
      have hb : s a < s b := of_decide_eq_true h
      refine List.pairwise_cons.mpr ⟨fun c hc => ?_, ih hl.2 fun c hc => ha c (List.mem_cons_of_mem _ hc)⟩
      rcases List.mem_cons.mp ((perm_insertBefore (gtOf s) a l).mem_iff.mp hc) with rfl | hc'
      · exact .inl hb
      · exact hl.1 c hc'
    · rename_i h
      have hb : ¬ s a < s b := fun h' => h (decide_eq_true h')
      have hab : Before s a b := by
        rcases lt_or_eq_of_le (not_lt.mp hb) with h1 | h1
        · exact .inl h1
        · exact .inr ⟨h1.symm, ha b (List.mem_cons_self)⟩
      refine List.pairwise_cons.mpr ⟨fun c hc => ?_, List.pairwise_cons.mpr hl⟩
      rcases List.mem_cons.mp hc with rfl | hc'
      · exact hab
      · exact before_trans s a b c hab (hl.1 c hc')

theorem sort_pairwise (s : Fin 16 → EReal) (l : List (Fin 16)) (hl : l.Pairwise (· < ·)) : (stableSort (gtOf s) l).Pairwise (Before s) := by
  induction l with
  | nil => exact List.Pairwise.nil
  | cons a l ih =>
    rw [List.pairwise_cons] at hl
    unfold stableSort
    exact insert_pairwise s a _ (ih hl.2) fun b hb => hl.1 b ((perm_stableSort (gtOf s) l).mem_iff.mp hb)

/-- The sorting permutation puts earlier what comes before. -/
theorem sorted_before (s : Fin 16 → EReal) (i j : Fin 16) (hij : i < j) : Before s (sortedFrom (gtOf s) i) (sortedFrom (gtOf s) j) := by
  have h0 : (sortPositions 16 (gtOf s)).Pairwise (Before s) := sort_pairwise s (List.finRange 16) (List.pairwise_lt_finRange 16)
  have hp : ∀ a b : Fin (sortPositions 16 (gtOf s)).length, a < b →
      Before s ((sortPositions 16 (gtOf s)).get a) ((sortPositions 16 (gtOf s)).get b) := List.pairwise_iff_get.mp h0
  unfold sortedFrom
  exact hp _ _ (by simp only [Fin.lt_def, Fin.val_cast]; exact hij)

/-- As many heads come before the one at place `j` as there are places before `j`. -/
theorem rank_sorted (s : Fin 16 → EReal) (j : Fin 16) : rank s (sortedFrom (gtOf s) j) = j.val := by
  have e : (Finset.univ.filter fun x => Before s x (sortedFrom (gtOf s) j)) = (Finset.Iio j).image (sortedFrom (gtOf s)) := by
    ext x
    simp only [Finset.mem_filter, Finset.mem_univ, true_and, Finset.mem_image, Finset.mem_Iio]
    constructor
    · intro h
      obtain ⟨i, rfl⟩ := sortedFrom_surjective (gtOf s) x
      refine ⟨i, ?_, rfl⟩
      by_contra hn
      rcases lt_or_eq_of_le (not_lt.mp hn) with h1 | h1
      · exact before_irrefl s _ (before_trans s _ _ _ h (sorted_before s j i h1))
      · subst h1; exact before_irrefl s _ h
    · rintro ⟨i, hi, rfl⟩
      exact sorted_before s i j hi
  unfold rank
  rw [e, Finset.card_image_of_injective _ (sortedFrom_injective (gtOf s)), Fin.card_Iio]

/-- A head is among the first eight exactly when fewer than eight come before it. -/
theorem first_eight (s : Fin 16 → EReal) (h : Fin 16) :
    (∃ k : Fin 8, sortedFrom (gtOf s) (k.castLE (by decide)) = h) ↔ rank s h < 8 := by
  constructor
  · rintro ⟨k, rfl⟩
    rw [rank_sorted]; exact k.isLt
  · intro hr
    obtain ⟨i, rfl⟩ := sortedFrom_surjective (gtOf s) h
    rw [rank_sorted] at hr
    exact ⟨⟨i.val, hr⟩, congrArg _ (Fin.ext rfl)⟩

end Cert.Proof.Qkv

end
-- ==== Proof.RefOps.lean ====
/- The reference's gathers and scatters read at one element, and its table of chosen heads. -/
module

public import proofs.«01_k».proof.Proof.Order
public import proofs.«01_k».proof.Proof.Gen.ReferenceIdeal.Run
public import Idealize.ShloMosaic.Lib.Routing.OpsPair
public import Idealize.ShloMosaic.Lib.Routing.OpsSet

@[expose] public section

set_option maxRecDepth 16384

noncomputable section

namespace Cert.Proof.Ref

open Idealize.ShloMosaic Idealize.SL.Sem
open Cert.ReferenceIdeal Cert.ReferenceIdeal.Gen
open Cert.Proof.Qkv (gtOf rank Before)

theorem toInt_head (g : Fin 16) : (BitVec.ofNat 32 g.val).toInt = (g.val : ℤ) := by
  revert g; decide +kernel

/-- A gather of heads, at one element. -/
theorem gather_at {α : Type} (x : S1x16x2048x64.Idx → α) (idx : IVec S8x1 32) (k : Fin 8) (g : Fin 16)
    (hg : idx (ix2 k 0) = BitVec.ofNat 32 g.val) (n : Fin 2048) (d : Fin 64) :
    Host.gather gather_S1x16x2048x64_S8x1_S1x8x2048x64_023_1_n_n_1_1_11204864 x idx (ix4 0 k n d) = x (ix4 0 g n d) := by
  unfold Host.gather
  refine congrArg x (funext fun a => Fin.ext ?_)
  have hi : gather_S1x16x2048x64_S8x1_S1x8x2048x64_023_1_n_n_1_1_11204864.siIdx (ix4 0 k n d) ⟨0, by decide⟩ = ix2 k 0 := by
    funext b; match b with | ⟨0, _⟩ => rfl | ⟨1, _⟩ => rfl
  match a with
  | ⟨0, _⟩ => rfl
  | ⟨1, _⟩ =>
    have hs : gather_S1x16x2048x64_S8x1_S1x8x2048x64_023_1_n_n_1_1_11204864.start (ix4 0 k n d) idx 1 = g.val := by
      unfold GatherDims.start
      rw [dif_pos (by decide)]
      refine (congrArg (fun i => min (idx i).toInt.toNat 15) hi).trans ?_
      show min (idx (ix2 k 0)).toInt.toNat 15 = g.val
      rw [hg, toInt_head]
      have := g.isLt
      omega
    show gather_S1x16x2048x64_S8x1_S1x8x2048x64_023_1_n_n_1_1_11204864.start (ix4 0 k n d) idx 1 + 0 + 0 = g.val
    rw [hs]; rfl
  | ⟨2, _⟩ => exact Nat.zero_add _
  | ⟨3, _⟩ => exact Nat.zero_add _

/-- Where an update of the heads' values lands. -/
theorem lands_y (idx : IVec S8x1 32) (hd : Fin 8 → Fin 16) (hidx : ∀ k, idx (ix2 k 0) = BitVec.ofNat 32 (hd k).val)
    (b : Fin 1) (k : Fin 8) (n : Fin 2048) (d : Fin 64) :
    scatter_S1x16x2048x64_S8x1_S1x8x2048x64_023_1_1_1.resultIdx? (ix4 b k n d) idx = some (ix4 b (hd k) n d) := by
  rw [Routing.resultIdx?_eq_some]
  have hi : scatter_S1x16x2048x64_S8x1_S1x8x2048x64_023_1_1_1.siIdx (ix4 b k n d) ⟨0, by decide⟩ = ix2 k 0 := by
    funext b; match b with | ⟨0, _⟩ => rfl | ⟨1, _⟩ => rfl
  intro a
  match a with
  | ⟨0, _⟩ => exact zero_add _
  | ⟨1, _⟩ =>
    have hs : scatter_S1x16x2048x64_S8x1_S1x8x2048x64_023_1_1_1.start (ix4 b k n d) idx 1 = (hd k).val := by
      unfold ScatterDims.start
      rw [dif_pos (by decide)]
      refine (congrArg (fun i => (idx i).toInt) hi).trans ?_
      rw [hidx, toInt_head]
    refine (congrArg (· + ((0 : ℕ) : ℤ)) hs).trans ?_
    exact add_zero _
  | ⟨2, _⟩ => exact zero_add _
  | ⟨3, _⟩ => exact zero_add _

theorem lands_a (idx : IVec S8x1 32) (hd : Fin 8 → Fin 16) (hidx : ∀ k, idx (ix2 k 0) = BitVec.ofNat 32 (hd k).val)
    (b : Fin 1) (k : Fin 8) (n : Fin 2048) (d : Fin 2048) :
    scatter_S1x16x2048x2048_S8x1_S1x8x2048x2048_023_1_1_1.resultIdx? (ix4 b k n d) idx = some (ix4 b (hd k) n d) := by
  rw [Routing.resultIdx?_eq_some]
  have hi : scatter_S1x16x2048x2048_S8x1_S1x8x2048x2048_023_1_1_1.siIdx (ix4 b k n d) ⟨0, by decide⟩ = ix2 k 0 := by
    funext b; match b with | ⟨0, _⟩ => rfl | ⟨1, _⟩ => rfl
  intro a
  match a with
  | ⟨0, _⟩ => exact zero_add _
  | ⟨1, _⟩ =>
    have hs : scatter_S1x16x2048x2048_S8x1_S1x8x2048x2048_023_1_1_1.start (ix4 b k n d) idx 1 = (hd k).val := by
      unfold ScatterDims.start
      rw [dif_pos (by decide)]
      refine (congrArg (fun i => (idx i).toInt) hi).trans ?_
      rw [hidx, toInt_head]
    refine (congrArg (· + ((0 : ℕ) : ℤ)) hs).trans ?_
    exact add_zero _
  | ⟨2, _⟩ => exact zero_add _
  | ⟨3, _⟩ => exact zero_add _

/-- A scatter of heads, read at a head that is written, and at one that is not. -/
theorem scatter_y_hit {α : Type} (x0 : S1x16x2048x64.Idx → α) (idx : IVec S8x1 32) (hd : Fin 8 → Fin 16) (hinj : Function.Injective hd)
    (hidx : ∀ k, idx (ix2 k 0) = BitVec.ofNat 32 (hd k).val) (upd : S1x8x2048x64.Idx → α) (k : Fin 8) (n : Fin 2048) (d : Fin 64) :
    Host.scatter scatter_S1x16x2048x64_S8x1_S1x8x2048x64_023_1_1_1 (fun _ b => b) x0 idx upd (ix4 0 (hd k) n d) = upd (ix4 0 k n d) := by
  refine Routing.scatter_set_hit _ x0 idx upd _ _ (fun j hj => ?_) (ix4 0 k n d) (lands_y idx hd hidx 0 k n d)
  idx_vars j
  rw [lands_y idx hd hidx] at hj
  have e := Option.some.inj hj
  have e0 : j0 = 0 := Subsingleton.elim _ _
  have e1 : j1 = k := hinj (congrFun e 1)
  have e2 : j2 = n := congrFun e 2
  have e3 : j3 = d := congrFun e 3
  rw [e0, e1, e2, e3]

theorem scatter_y_miss {α : Type} (x0 : S1x16x2048x64.Idx → α) (idx : IVec S8x1 32) (hd : Fin 8 → Fin 16)
    (hidx : ∀ k, idx (ix2 k 0) = BitVec.ofNat 32 (hd k).val) (upd : S1x8x2048x64.Idx → α) (h : Fin 16) (hh : ¬ ∃ k, hd k = h) (n : Fin 2048) (d : Fin 64) :
    Host.scatter scatter_S1x16x2048x64_S8x1_S1x8x2048x64_023_1_1_1 (fun _ b => b) x0 idx upd (ix4 0 h n d) = x0 (ix4 0 h n d) := by
  refine Routing.scatter_set_miss _ x0 idx upd _ fun j hj => ?_
  idx_vars j
  rw [lands_y idx hd hidx] at hj
  exact hh ⟨j1, congrFun (Option.some.inj hj) 1⟩

theorem scatter_a_hit {α : Type} (x0 : S1x16x2048x2048.Idx → α) (idx : IVec S8x1 32) (hd : Fin 8 → Fin 16) (hinj : Function.Injective hd)
    (hidx : ∀ k, idx (ix2 k 0) = BitVec.ofNat 32 (hd k).val) (upd : S1x8x2048x2048.Idx → α) (k : Fin 8) (n d : Fin 2048) :
    Host.scatter scatter_S1x16x2048x2048_S8x1_S1x8x2048x2048_023_1_1_1 (fun _ b => b) x0 idx upd (ix4 0 (hd k) n d) = upd (ix4 0 k n d) := by
  refine Routing.scatter_set_hit _ x0 idx upd _ _ (fun j hj => ?_) (ix4 0 k n d) (lands_a idx hd hidx 0 k n d)
  idx_vars j
  rw [lands_a idx hd hidx] at hj
  have e := Option.some.inj hj
  have e0 : j0 = 0 := Subsingleton.elim _ _
  have e1 : j1 = k := hinj (congrFun e 1)
  have e2 : j2 = n := congrFun e 2
  have e3 : j3 = d := congrFun e 3
  rw [e0, e1, e2, e3]

theorem scatter_a_miss {α : Type} (x0 : S1x16x2048x2048.Idx → α) (idx : IVec S8x1 32) (hd : Fin 8 → Fin 16)
    (hidx : ∀ k, idx (ix2 k 0) = BitVec.ofNat 32 (hd k).val) (upd : S1x8x2048x2048.Idx → α) (h : Fin 16) (hh : ¬ ∃ k, hd k = h) (n d : Fin 2048) :
    Host.scatter scatter_S1x16x2048x2048_S8x1_S1x8x2048x2048_023_1_1_1 (fun _ b => b) x0 idx upd (ix4 0 h n d) = x0 (ix4 0 h n d) := by
  refine Routing.scatter_set_miss _ x0 idx upd _ fun j hj => ?_
  idx_vars j
  rw [lands_a idx hd hidx] at hj
  exact hh ⟨j1, congrFun (Option.some.inj hj) 1⟩

/-- The places a top-k of the sixteen scores gives, greatest first. -/
def top8 (sc : Vec Ideal S16 .f32) : IVec S8 32 :=
  (Host.topK (s := S16) (α := Ideal .f32) S8 0 (FloatOps.cmpfTotal (F := Ideal) (φ := .f32) .gt) sc sliceFits_S16_S8).2

/-- The positions' words sorted with the scores. -/
def places (sc : Vec Ideal S16 .f32) : IVec S16 32 :=
  (Host.sort2 S16 0 (fun l r : Ideal .f32 × BitVec 32 => FloatOps.cmpfTotal (F := Ideal) (φ := .f32) .gt l.1 r.1) sc
    (fun i => if hd : 0 < S16.rank then iotaInDim S16 32 ⟨0, hd⟩ i else 0#32)).2

theorem iota_at (x : Fin 16) : iotaInDim S16 32 (0 : Fin 1) (ix1 x) = BitVec.ofNat 32 x.val := rfl

theorem places_at (sc : Vec Ideal S16 .f32) (i : Fin 16) :
    places sc (ix1 i) = BitVec.ofNat 32 (sortedFrom (gtOf fun x => sc (ix1 x)) i).val := by
  have ha : ∀ x : Fin 16, (Shape.Idx.along (s := S16) (ix1 i) (0 : Fin 1) x) = ix1 x := by
    intro x; funext a; match a with | ⟨0, _⟩ => rfl
  have hgt : (fun x y : Fin 16 => FloatOps.cmpfTotal (F := Ideal) (φ := .f32) .gt (sc (Shape.Idx.along (s := S16) (ix1 i) (0 : Fin 1) x))
      (sc (Shape.Idx.along (s := S16) (ix1 i) (0 : Fin 1) y)) == 1#1) = gtOf fun x => sc (ix1 x) := by
    funext x y
    rw [ha x, ha y]
    show (BitVec.ofBool (decide (sc (ix1 y) < sc (ix1 x))) == 1#1) = decide (sc (ix1 y) < sc (ix1 x))
    by_cases h : sc (ix1 y) < sc (ix1 x)
    · rw [decide_eq_true h]; rfl
    · rw [decide_eq_false h]; rfl
  have key : ∀ R : Fin 16 → Fin 16 → Bool, R = gtOf (fun x => sc (ix1 x)) →
      iotaInDim S16 32 (0 : Fin 1) (Shape.Idx.along (s := S16) (ix1 i) (0 : Fin 1) (sortedFrom R i))
        = BitVec.ofNat 32 (sortedFrom (gtOf fun x => sc (ix1 x)) i).val := by
    rintro _ rfl
    exact (congrArg (iotaInDim S16 32 (0 : Fin 1)) (ha (sortedFrom (gtOf fun x => sc (ix1 x)) i))).trans (iota_at _)
  unfold places Host.sort2
  rw [dif_pos (show 0 < S16.rank by decide)]
  dsimp only
  rw [dif_pos (show 0 < S16.rank by decide)]
  exact key _ hgt

theorem top8_eq (sc : Vec Ideal S16 .f32) : top8 sc = extractStridedSlice S8 (fun _ => 0) (places sc) sliceFits_S16_S8 := rfl

theorem cut_at (p : IVec S16 32) (k : Fin 8) : extractStridedSlice S8 (fun _ => 0) p sliceFits_S16_S8 (ix1 k) = p (ix1 (k.castLE (by decide) : Fin 16)) := by
  unfold extractStridedSlice
  refine congrArg p ?_
  funext a; match a with | ⟨0, _⟩ => exact Fin.ext (Nat.zero_add _)

theorem top8_at (sc : Vec Ideal S16 .f32) (k : Fin 8) :
    top8 sc (ix1 k) = BitVec.ofNat 32 (sortedFrom (gtOf fun x => sc (ix1 x)) (k.castLE (by decide))).val := by
  rw [top8_eq, cut_at, places_at]

/-- The table of chosen heads: eight different heads, those with fewer than eight before them. -/
theorem table_spec (sc : Vec Ideal S16 .f32) : ∃ hd : Fin 8 → Fin 16, Function.Injective hd
    ∧ (∀ h, (∃ k, hd k = h) ↔ rank (fun x => sc (ix1 x)) h < 8)
    ∧ ∀ k : Fin 8, Host.sort S8 0 comparator_i32_d0 (top8 sc) (ix1 k) = BitVec.ofNat 32 (hd k).val := by
  obtain ⟨σ, hσ, h8, ht⟩ : ∃ σ : Fin 16 → Fin 16, Function.Injective σ
      ∧ (∀ h, (∃ k : Fin 8, σ (k.castLE (by decide)) = h) ↔ rank (fun x => sc (ix1 x)) h < 8)
      ∧ ∀ k : Fin 8, top8 sc (ix1 k) = BitVec.ofNat 32 (σ (k.castLE (by decide))).val :=
    ⟨sortedFrom (gtOf fun x => sc (ix1 x)), sortedFrom_injective _, Cert.Proof.Qkv.first_eight _, top8_at sc⟩
  obtain ⟨ρ, hρ, hs, hr⟩ : ∃ ρ : Fin 8 → Fin 8, Function.Injective ρ ∧ Function.Surjective ρ
      ∧ ∀ k : Fin 8, Host.sort S8 0 comparator_i32_d0 (top8 sc) (ix1 k) = top8 sc (Shape.Idx.ofFin (ρ k)) :=
    ⟨sortedFrom _, sortedFrom_injective _, sortedFrom_surjective _, fun k => Host.sort_rank1 comparator_i32_d0 (top8 sc) (ix1 k)⟩
  refine ⟨fun k => σ ((ρ k).castLE (by decide)), ?_, ?_, ?_⟩
  · intro a b h
    exact hρ (Fin.castLE_injective _ (hσ h))
  · intro h
    rw [← h8]
    constructor
    · rintro ⟨k, hk⟩; exact ⟨ρ k, hk⟩
    · rintro ⟨k, hk⟩
      obtain ⟨k', rfl⟩ := hs k
      exact ⟨k', hk⟩
  · intro k
    rw [hr]
    refine Eq.trans (congrArg (top8 sc) ?_) (ht (ρ k))
    funext a; match a with | ⟨0, _⟩ => rfl

end Cert.Proof.Ref

end
-- ==== Proof.RefVal.lean ====
/- The reference's results read at one element in exact arithmetic. -/
module

public import proofs.«01_k».proof.Proof.RefOps
public import proofs.«01_k».proof.Proof.Vals2

@[expose] public section

set_option maxRecDepth 16384

noncomputable section

namespace Cert.Proof.Ref

open Idealize.ShloMosaic Idealize.SL.Sem
open Cert.ReferenceIdeal Cert.ReferenceIdeal.Gen Cert.ReferenceIdeal.Value
open Cert.Proof.Qkv (gtOf rank Before qrow krow vrow)

variable (V0 : Valuation τ sig (Elt Ideal))

/-- The arguments at one element. -/
def ax (n : Fin 2048) (k : Fin 1024) : EReal := (V0 (Proc.devRef .tc main_arg0) : Vec Ideal S1x2048x1024 .f32) (ix3 0 n k)
def aw (r : Fin 3072) (k : Fin 1024) : EReal := (V0 (Proc.devRef .tc main_arg1) : Vec Ideal S3072x1024 .f32) (ix2 r k)
def ab (r : Fin 3072) : EReal := (V0 (Proc.devRef .tc main_arg2) : Vec Ideal S3072 .f32) (ix1 r)
def ap (r e : Fin 1024) : EReal := (V0 (Proc.devRef .tc main_arg3) : Vec Ideal S1024x1024 .f32) (ix2 r e)
def ac (e : Fin 1024) : EReal := (V0 (Proc.devRef .tc main_arg4) : Vec Ideal S1024 .f32) (ix1 e)

/-- The reference's projections. -/
def rproj (r : Fin 3072) (n : Fin 2048) : EReal := (∑ k : Fin 1024, ax V0 n k * aw V0 r k) + ab V0 r

theorem v6_at (t : Fin 3) (h : Fin 16) (n : Fin 2048) (d : Fin 64) :
    (res_main_v6 V0 : Vec Ideal S3x1x16x2048x64 .f32) (ix5 t 0 h n d) = rproj V0 ⟨t.val * 1024 + h.val * 64 + d.val, by omega⟩ n := by
  unfold rproj ax aw ab
  pointwise! [res_main_v6]

theorem v8_at (h : Fin 16) (n : Fin 2048) (d : Fin 64) :
    (res_main_v8 V0 : Vec Ideal S1x16x2048x64 .f32) (ix4 0 h n d) = rproj V0 (qrow h d) n := by
  have e : qrow h d = ⟨(0 : Fin 3).val * 1024 + h.val * 64 + d.val, by omega⟩ := Fin.ext (by simp [qrow])
  rw [e, ← v6_at V0 0 h n d]
  pointwise! [res_main_v8]

theorem keys_at (h : Fin 16) (n : Fin 2048) (d : Fin 64) :
    (shapeCast S1x16x2048x64 (extractStridedSlice S1x1x16x2048x64 ![1, 0, 0, 0, 0] (res_main_v6 V0) slices_S3x1x16x2048x64_S1x1x16x2048x64_1_0_0_0_0) shapeCasts_S1x1x16x2048x64_S1x16x2048x64 : Vec Ideal S1x16x2048x64 .f32) (ix4 0 h n d) = rproj V0 (krow h d) n := by
  have e : krow h d = ⟨(1 : Fin 3).val * 1024 + h.val * 64 + d.val, by omega⟩ := Fin.ext (by simp [krow]; omega)
  rw [e, ← v6_at V0 1 h n d]
  pointwise! []

theorem values_at (h : Fin 16) (n : Fin 2048) (d : Fin 64) :
    (shapeCast S1x16x2048x64 (extractStridedSlice S1x1x16x2048x64 ![2, 0, 0, 0, 0] (res_main_v6 V0) slices_S3x1x16x2048x64_S1x1x16x2048x64_2_0_0_0_0) shapeCasts_S1x1x16x2048x64_S1x16x2048x64 : Vec Ideal S1x16x2048x64 .f32) (ix4 0 h n d) = rproj V0 (vrow h d) n := by
  have e : vrow h d = ⟨(2 : Fin 3).val * 1024 + h.val * 64 + d.val, by omega⟩ := Fin.ext (by simp [vrow]; omega)
  rw [e, ← v6_at V0 2 h n d]
  pointwise! []

/-- A sum over every axis but the heads'. -/
theorem sum_head (f : S1x16x2048x64.Idx → EReal) (h : Fin 16) :
    Ideal.hostReduceAdd reducesTo_S1x16x2048x64_S16_d0_2_3 f 0 (ix1 h) = ∑ n : Fin 2048, ∑ d : Fin 64, f (ix4 0 h n d) := by
  have hdrop : ∀ i, (reducesTo_S1x16x2048x64_S16_d0_2_3 : S1x16x2048x64.ReducesTo [0, 2, 3] S16).drop i = ix1 (i 1) := by
    intro i; funext a; match a with | ⟨0, _⟩ => rfl
  unfold Ideal.hostReduceAdd
  rw [zero_add, ← Finset.sum_product' Finset.univ Finset.univ (fun n d => f (ix4 0 h n d))]
  refine Finset.sum_nbij' (fun i => ((i 2 : Fin 2048), (i 3 : Fin 64))) (fun p => ix4 0 h p.1 p.2) ?_ ?_ ?_ ?_ ?_
  · intro i _; simp
  · intro p _
    simp only [Finset.mem_filter, Finset.mem_univ, true_and, hdrop]
    rfl
  · intro i hi
    simp only [Finset.mem_filter, Finset.mem_univ, true_and, hdrop] at hi
    idx_vars i
    have e1 : i1 = h := congrFun hi 0
    have e0 : i0 = 0 := Subsingleton.elim _ _
    rw [e0, e1]
  · intro p _; rfl
  · intro i hi
    simp only [Finset.mem_filter, Finset.mem_univ, true_and, hdrop] at hi
    idx_vars i
    have e1 : i1 = h := congrFun hi 0
    have e0 : i0 = 0 := Subsingleton.elim _ _
    rw [e0, e1]

/-- The scores the reference ranks. -/
theorem v16_at (h : Fin 16) : (res_main_v16 V0 : Vec Ideal S16 .f32) (ix1 h)
    = Ideal.div (∑ n : Fin 2048, ∑ d : Fin 64, rproj V0 (qrow h d) n * rproj V0 (qrow h d) n) (Ideal.ofBits .f32 0x48000000#32) := by
  simp only [← v8_at V0]
  pointwise [res_main_v16]
  rw [sum_head]
  rfl

/-! ## The chosen heads' slices -/

theorem index_at (hd : Fin 8 → Fin 16) (tb : IVec S8 32) (ht : ∀ k, tb (ix1 k) = BitVec.ofNat 32 (hd k).val) (k : Fin 8) :
    (broadcastInDim S8x1 ![0] bcast_S8_S8x1_0 (select (cmpi .slt tb (broadcastInDim S8 ![] bcast_S_S8 (constantI S_ 32 0#32))) (addi tb (broadcastInDim S8 ![] bcast_S_S8 (constantI S_ 32 16#32))) tb) : IVec S8x1 32) (ix2 k 0)
      = BitVec.ofNat 32 (hd k).val := by
  pointwise []
  rw [ht]
  generalize hd k = g
  revert g
  decide +kernel

/-- The rows of the table's heads, or a filler where the table's entry is no head. -/
def taken (x : Vec Ideal S1x16x2048x64 .f32) (idx : IVec S8x1 32) : Vec Ideal S1x8x2048x64 .f32 :=
  select (broadcastInDim S1x8x2048x64 ![1] bcast_S8_S1x8x2048x64_1 (Host.reduce IntOp.andi (andi (cmpi .sge idx (broadcastInDim S8x1 ![] bcast_S_S8x1 (constantI S_ 32 0#32))) (cmpi .sle idx (broadcastInDim S8x1 ![0, 1] bcast_S1x1_S8x1_0_1 (broadcastInDim S1x1 ![1] bcast_S1_S1x1_1 (constantI S1 32 15#32))))) (constantI S_ 1 1#1) reducesTo_S8x1_S8_d1 h_S_)) (Host.gather gather_S1x16x2048x64_S8x1_S1x8x2048x64_023_1_n_n_1_1_11204864 x idx) (broadcastInDim S1x8x2048x64 ![] bcast_S_S1x8x2048x64 (constant (F := Ideal) S_ .f32 0x7FC00000#32))

theorem in_range (g : Fin 16) : IntOp.andi (IntOp.andi (IntOp.cmpi .sge (BitVec.ofNat 32 g.val) 0#32) (IntOp.cmpi .sle (BitVec.ofNat 32 g.val) 15#32)) 1#1 = 1#1 := by
  revert g; decide +kernel

theorem taken_at (hd : Fin 8 → Fin 16) (x : Vec Ideal S1x16x2048x64 .f32) (idx : IVec S8x1 32) (hidx : ∀ k, idx (ix2 k 0) = BitVec.ofNat 32 (hd k).val)
    (k : Fin 8) (n : Fin 2048) (d : Fin 64) : taken x idx (ix4 0 k n d) = x (ix4 0 (hd k) n d) := by
  rw [← gather_at x idx k (hd k) (hidx k) n d]
  pointwise [taken]
  rw [Finset.univ_unique, Finset.fold_singleton, show (default : Fin 1) = 0 from rfl, hidx, in_range]
  rfl

/-! ## The attention of the chosen heads -/

/-- The keys and the values as the reference slices them. -/
def rkeys : Vec Ideal S1x16x2048x64 .f32 :=
  shapeCast S1x16x2048x64 (extractStridedSlice S1x1x16x2048x64 ![1, 0, 0, 0, 0] (res_main_v6 V0) slices_S3x1x16x2048x64_S1x1x16x2048x64_1_0_0_0_0) shapeCasts_S1x1x16x2048x64_S1x16x2048x64
def rvals : Vec Ideal S1x16x2048x64 .f32 :=
  shapeCast S1x16x2048x64 (extractStridedSlice S1x1x16x2048x64 ![2, 0, 0, 0, 0] (res_main_v6 V0) slices_S3x1x16x2048x64_S1x1x16x2048x64_2_0_0_0_0) shapeCasts_S1x1x16x2048x64_S1x16x2048x64

theorem v27_eq : (res_main_v27 V0 : Vec Ideal S1x8x2048x2048 .f32) = mulf (F := Ideal) (φ := .f32) (broadcastInDim S1x8x2048x2048 ![1, 2, 3] bcast_S8x2048x2048_S1x8x2048x2048_1_2_3 (Host.dotGeneral (F := Ideal) (φ₁ := .f32) (φ₂ := .f32) dot_S8x2048x64_S8x64x2048_S8x2048x2048_2_1_1_2_0_0 none
    (shapeCast S8x2048x64 (taken (res_main_v8 V0) (res_main_call1_v5 V0)) shapeCasts_S1x8x2048x64_S8x2048x64)
    (shapeCast _ (transpose S1x8x64x2048 [0, 1, 3, 2] (taken (rkeys V0) (res_main_call2_v5 V0)) transposes_S1x8x2048x64_S1x8x64x2048_0_1_3_2) shapeCasts_S1x8x64x2048_S8x64x2048)))
    (broadcastInDim S1x8x2048x2048 ![] bcast_S_S1x8x2048x2048 (constant (F := Ideal) S_ .f32 0x3E000000#32)) := rfl

section chosen
variable (hd : Fin 8 → Fin 16) (ht : ∀ k : Fin 8, (res_main_v17 V0 : IVec S8 32) (ix1 k) = BitVec.ofNat 32 (hd k).val)
include ht

theorem call1_at (k : Fin 8) : (res_main_call1_v5 V0 : IVec S8x1 32) (ix2 k 0) = BitVec.ofNat 32 (hd k).val := index_at hd _ ht k
theorem call2_at (k : Fin 8) : (res_main_call2_v5 V0 : IVec S8x1 32) (ix2 k 0) = BitVec.ofNat 32 (hd k).val := index_at hd _ ht k
theorem call3_at (k : Fin 8) : (res_main_call3_v5 V0 : IVec S8x1 32) (ix2 k 0) = BitVec.ofNat 32 (hd k).val := index_at hd _ ht k

/-- The scaled products. -/
theorem v27_at (k : Fin 8) (n j : Fin 2048) : (res_main_v27 V0 : Vec Ideal S1x8x2048x2048 .f32) (ix4 0 k n j)
    = (∑ d : Fin 64, rproj V0 (qrow (hd k) d) n * rproj V0 (krow (hd k) d) j) * Ideal.ofBits .f32 0x3E000000#32 := by
  rw [v27_eq]
  have hq : ∀ d, taken (res_main_v8 V0) (res_main_call1_v5 V0) (ix4 0 k n d) = rproj V0 (qrow (hd k) d) n := fun d =>
    (taken_at hd _ _ (call1_at V0 hd ht) k n d).trans (v8_at V0 (hd k) n d)
  have hk : ∀ d, taken (rkeys V0) (res_main_call2_v5 V0) (ix4 0 k j d) = rproj V0 (krow (hd k) d) j := fun d =>
    (taken_at hd _ _ (call2_at V0 hd ht) k j d).trans (keys_at V0 (hd k) j d)
  simp only [← hq, ← hk]
  pointwise! []

end chosen

end Cert.Proof.Ref

end
-- ==== Proof.Soft.lean ====
/- Facts about extended reals: sums and quotients of real numbers, the softmax identity, and the order of scaled scores. -/
module

public import proofs.«01_k».proof.Proof.Order

@[expose] public section

noncomputable section

namespace Cert.Proof.Qkv

open Idealize.ShloMosaic

/-- An extended real that is a real number. -/
def IsReal (x : EReal) : Prop := ∃ r : ℝ, x = (r : EReal)

theorem IsReal.of_ne {x : EReal} (h : x ≠ ⊥) (h' : x ≠ ⊤) : IsReal x := ⟨x.toReal, (EReal.coe_toReal h' h).symm⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ i, IsReal (f i)) : IsReal (∑ i ∈ s, f i) := by
  choose g hg using h
  exact ⟨∑ i ∈ s, g i, by simp only [hg]; exact coe_sum s g⟩

/-- The constants: an eighth, and the number of elements of a head's queries. -/
theorem eighth : Ideal.ofBits .f32 0x3E000000#32 = (((1 : ℝ) / 8 : ℝ) : EReal) := by
  simp [Ideal.ofBits, Ideal.ieee, -EReal.coe_mul]
  norm_num

theorem elements : Ideal.ofBits .f32 0x48000000#32 = ((131072 : ℝ) : EReal) := by
  simp [Ideal.ofBits, Ideal.ieee, -EReal.coe_mul]
  norm_num

theorem minus_infinity : Ideal.ofBits .f32 0xFF800000#32 = ⊥ := by
  simp [Ideal.ofBits, Ideal.ieee]

section soft
variable {n : ℕ} [NeZero n] (l v : Fin n → ℝ) (m : ℝ)

theorem exp_sum_pos : 0 < ∑ x, Real.exp (l x) :=
  Finset.sum_pos (fun x _ => Real.exp_pos (l x)) ⟨0, Finset.mem_univ 0⟩

theorem exp_sum : (∑ x, Ideal.exp (l x : EReal)) = ((∑ x, Real.exp (l x) : ℝ) : EReal) := by
  simp only [Ideal.exp_coe]; exact coe_sum _ _

theorem inv_exp_sum : Ideal.div 1 (∑ x, Ideal.exp (l x : EReal)) = ((1 / ∑ x, Real.exp (l x) : ℝ) : EReal) := by
  rw [exp_sum, Ideal.div_coe (exp_sum_pos l).ne', one_mul]

/-- A shift of the exponents leaves the softmax as it is, and a quotient is a product with the reciprocal. -/
theorem softmax_shift (j : Fin n) : Ideal.div (Ideal.exp ((l j : EReal) - (m : EReal))) (∑ x, Ideal.exp ((l x : EReal) - (m : EReal)))
    = Ideal.exp (l j : EReal) * Ideal.div 1 (∑ x, Ideal.exp (l x : EReal)) := by
  have e : ∀ x, (l x : EReal) - (m : EReal) = ((l x - m : ℝ) : EReal) := fun x => (EReal.coe_sub (l x) m).symm
  simp only [e]
  rw [inv_exp_sum l, exp_sum (fun x => l x - m), Ideal.div_coe (exp_sum_pos fun x => l x - m).ne', Ideal.exp_coe, Ideal.exp_coe, ← EReal.coe_mul, ← EReal.coe_mul]
  congr 1
  have hs : (∑ x, Real.exp (l x - m)) = (∑ x, Real.exp (l x)) * Real.exp (-m) := by
    rw [Finset.sum_mul]; exact Finset.sum_congr rfl fun x _ => by rw [← Real.exp_add, sub_eq_add_neg]
  rw [hs, sub_eq_add_neg, Real.exp_add]
  have h1 := (exp_sum_pos l).ne'
  have h2 := (Real.exp_pos (-m)).ne'
  field_simp

/-- The mixed values: the reciprocal comes out of the sum. -/
theorem softmax_mix : (∑ j, Ideal.exp (l j : EReal) * Ideal.div 1 (∑ x, Ideal.exp (l x : EReal)) * (v j : EReal))
    = (∑ j, Ideal.exp (l j : EReal) * (v j : EReal)) * Ideal.div 1 (∑ x, Ideal.exp (l x : EReal)) := by
  rw [inv_exp_sum l]
  simp only [Ideal.exp_coe, ← EReal.coe_mul]
  rw [coe_sum, coe_sum, ← EReal.coe_mul, Finset.sum_mul]
  congr 1
  exact Finset.sum_congr rfl fun j _ => by ring

end soft

/-- Scores in the same order have the same ranks. -/
theorem rank_mono (s s' : Fin 16 → EReal) (h : ∀ x y, s x < s y ↔ s' x < s' y) (x : Fin 16) : rank s x = rank s' x := by
  have he : ∀ x y, s x = s y ↔ s' x = s' y := fun x y => by
    constructor
    · intro e
      exact le_antisymm (not_lt.mp fun k => absurd ((h y x).mpr k) (by rw [e]; exact lt_irrefl _)) (not_lt.mp fun k => absurd ((h x y).mpr k) (by rw [e]; exact lt_irrefl _))
    · intro e
      exact le_antisymm (not_lt.mp fun k => absurd ((h y x).mp k) (by rw [e]; exact lt_irrefl _)) (not_lt.mp fun k => absurd ((h x y).mp k) (by rw [e]; exact lt_irrefl _))
  unfold rank
  refine congrArg Finset.card (Finset.filter_congr fun y _ => ?_)
  simp only [Before, h, he]

/-- Division by a positive number keeps the order of real numbers. -/
theorem div_order (a b c : ℝ) (hc : 0 < c) : (a : EReal) < (b : EReal) ↔ Ideal.div (a : EReal) (c : EReal) < Ideal.div (b : EReal) (c : EReal) := by
  rw [Ideal.div_coe hc.ne', Ideal.div_coe hc.ne', ← EReal.coe_mul, ← EReal.coe_mul, EReal.coe_lt_coe_iff, EReal.coe_lt_coe_iff]
  exact (mul_lt_mul_iff_left₀ (by positivity)).symm

end Cert.Proof.Qkv

end
-- ==== Proof.Finite.lean ====
/- Reductions read at the elements they reduce, and what the precondition says of the arguments. -/
module

public import proofs.«01_k».proof.Proof.Soft
public import proofs.«01_k».proof.Pre_finite

@[expose] public section

noncomputable section

namespace Cert.Proof.Qkv

open Idealize.ShloMosaic

/-- A left fold of the greater is the start or more, every element or more, and not infinite when these are not. -/
theorem foldl_max {ι : Type} (x : ι → EReal) (l : List ι) (b : EReal) :
    b ≤ l.foldl (fun r n => max r (x n)) b ∧ (∀ i ∈ l, x i ≤ l.foldl (fun r n => max r (x n)) b)
      ∧ (b ≠ ⊤ → (∀ i, x i ≠ ⊤) → l.foldl (fun r n => max r (x n)) b ≠ ⊤) := by
  induction l generalizing b with
  | nil => exact ⟨le_rfl, fun i hi => absurd hi (List.not_mem_nil), fun hb _ => hb⟩
  | cons a l ih =>
    obtain ⟨h1, h2, h3⟩ := ih (max b (x a))
    refine ⟨(le_max_left _ _).trans h1, fun i hi => ?_, fun hb hx => h3 ?_ hx⟩
    · rcases List.mem_cons.mp hi with rfl | hi
      · exact (le_max_right _ _).trans h1
      · exact h2 i hi
    · intro e
      rcases max_choice b (x a) with k | k
      · exact hb (k ▸ e)
      · exact hx a (k ▸ e)

section reduce
variable {s t u : Shape} {axes : List (Fin s.rank)}

/-- A host reduction by the greater, from the least, of real numbers is a real number. -/
theorem reduce_max_real (x : Vec Ideal s .f32) (init : Vec Ideal u .f32) (h : s.ReducesTo axes t) (hu : 0 < u.numel) (j : t.Idx)
    (hi : init (Shape.Idx.first hu) ≠ (⊤ : EReal)) (hx : ∀ i, IsReal (x i)) (i : s.Idx) (hd : h.drop i = j) :
    IsReal (Host.reduce (FloatOps.maximumf (F := Ideal) (φ := .f32)) x init h hu j) := by
  have H := foldl_max (fun n => (x (s.rowMajor.symm n) : EReal)) ((List.finRange s.numel).filter fun n => h.drop (s.rowMajor.symm n) = j) (init (Shape.Idx.first hu))
  have hmem : s.rowMajor i ∈ (List.finRange s.numel).filter fun n => h.drop (s.rowMajor.symm n) = j := by
    rw [List.mem_filter]
    exact ⟨List.mem_finRange _, by rw [Equiv.symm_apply_apply]; exact decide_eq_true hd⟩
  obtain ⟨-, h2, h3⟩ := H
  refine IsReal.of_ne ?_ (h3 hi fun n => ?_)
  · have := h2 _ hmem
    rw [Equiv.symm_apply_apply] at this
    obtain ⟨r, hr⟩ := hx i
    intro e
    have e2 : (x i : EReal) ≤ ⊥ := this.trans (le_of_eq e)
    rw [hr] at e2
    exact absurd (le_bot_iff.mp e2) (EReal.coe_ne_bot r)
  · obtain ⟨r, hr⟩ := hx (s.rowMajor.symm n)
    exact fun e => EReal.coe_ne_top r (hr.symm.trans e)

theorem foldl_and {ι : Type} (x : ι → BitVec 1) (l : List ι) (b : BitVec 1) (h : l.foldl (fun r n => IntOp.andi r (x n)) b = 1#1) :
    b = 1#1 ∧ ∀ i ∈ l, x i = 1#1 := by
  have key : ∀ p q : BitVec 1, IntOp.andi p q = 1#1 → p = 1#1 ∧ q = 1#1 := by decide
  induction l generalizing b with
  | nil => exact ⟨h, fun i hi => absurd hi (List.not_mem_nil)⟩
  | cons a l ih =>
    obtain ⟨h1, h2⟩ := ih (IntOp.andi b (x a)) h
    obtain ⟨h3, h4⟩ := key _ _ h1
    refine ⟨h3, fun i hi => ?_⟩
    rcases List.mem_cons.mp hi with rfl | hi
    · exact h4
    · exact h2 i hi

/-- A host reduction by `and` that is one has ones only. -/
theorem reduce_and (x : IVec s 1) (init : IVec u 1) (h : s.ReducesTo axes t) (hu : 0 < u.numel) (j : t.Idx)
    (e : Host.reduce IntOp.andi x init h hu j = 1#1) (i : s.Idx) (hd : h.drop i = j) : x i = 1#1 := by
  have H := (foldl_and (fun n => x (s.rowMajor.symm n)) _ _ e).2 (s.rowMajor i) (by
    rw [List.mem_filter]
    exact ⟨List.mem_finRange _, by rw [Equiv.symm_apply_apply]; exact decide_eq_true hd⟩)
  rwa [Equiv.symm_apply_apply] at H

end reduce

/-- A number whose size is below infinity is real. -/
theorem real_of_below (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x using EReal.rec with
  | bot => exact absurd h (by simp [Ideal.cmp])
  | top => exact absurd h (by simp [Ideal.cmp])
  | coe r => exact ⟨r, rfl⟩

section pre
variable [Cert.Pre_finite.Facts]
open Cert.Pre_finite

/-- What the precondition says: the input, the weights and the biases of the projections are real numbers. -/
theorem pre_real (a0 : Vec Ideal S1x2048x1024 .f32) (a1 : Vec Ideal S3072x1024 .f32) (a2 : Vec Ideal S3072 .f32) (a3 : Vec Ideal S1024x1024 .f32) (a4 : Vec Ideal S1024 .f32)
    (h : fn (F := Ideal) a0 a1 a2 a3 a4 = fun _ => 1#1) : (∀ i, IsReal (a0 i)) ∧ (∀ i, IsReal (a1 i)) ∧ ∀ i, IsReal (a2 i) := by
  have key : ∀ p q : BitVec 1, IntOp.andi p q = 1#1 → p = 1#1 ∧ q = 1#1 := by decide
  have sub : ∀ p q : S_.Idx, p = q := fun p q => funext fun b => b.elim0
  obtain ⟨h01, h2⟩ := key _ _ (congrFun h (Shape.Idx.first Facts.h_S_))
  obtain ⟨h0, h1⟩ := key _ _ h01
  exact ⟨fun i => real_of_below _ (reduce_and _ _ _ _ _ h0 i (sub _ _)), fun i => real_of_below _ (reduce_and _ _ _ _ _ h1 i (sub _ _)),
    fun i => real_of_below _ (reduce_and _ _ _ _ _ h2 i (sub _ _))⟩

end pre

end Cert.Proof.Qkv

end
-- ==== Proof.RefRes.lean ====
/- The reference's attention of the chosen heads and its two results, read at one element. -/
module

public import proofs.«01_k».proof.Proof.RefVal
public import proofs.«01_k».proof.Proof.Finite

@[expose] public section

set_option maxRecDepth 16384

noncomputable section

namespace Cert.Proof.Ref

open Idealize.ShloMosaic Idealize.SL.Sem Idealize.ShloMosaic.StableHlo
open Cert.ReferenceIdeal Cert.ReferenceIdeal.Gen Cert.ReferenceIdeal.Value
open Cert.Proof.Qkv (gtOf rank Before qrow krow vrow IsReal reduce_max_real minus_infinity)

variable (V0 : Valuation τ sig (Elt Ideal))

/-- The row maxima, the shifted exponentials and their quotients, as the reference composes them, of any array. -/
def rowMax (x : Vec Ideal S1x8x2048x2048 .f32) : Vec Ideal S1x8x2048 .f32 :=
  maximumf (F := Ideal) (φ := .f32) (broadcastInDim S1x8x2048 ![] bcast_S_S1x8x2048 (constant (F := Ideal) S_ .f32 0xFF800000#32))
    (Host.reduce (FloatOps.maximumf (F := Ideal) (φ := .f32)) x (constant (F := Ideal) S_ .f32 0xFF800000#32) reducesTo_S1x8x2048x2048_S1x8x2048_d3 h_S_)

def shifted (x : Vec Ideal S1x8x2048x2048 .f32) (b : Vec Ideal S1x8x2048 .f32) : Vec Ideal S1x8x2048x2048 .f32 :=
  Host.exp (F := Ideal) (φ := .f32) (subf (F := Ideal) (φ := .f32) x (broadcastInDim S1x8x2048x2048 ![0, 1, 2, 3] bcast_S1x8x2048x1_S1x8x2048x2048_0_1_2_3 (broadcastInDim S1x8x2048x1 ![0, 1, 2] bcast_S1x8x2048_S1x8x2048x1_0_1_2 b)))

def quotients (y : Vec Ideal S1x8x2048x2048 .f32) : Vec Ideal S1x8x2048x2048 .f32 :=
  Host.divf (F := Ideal) (φ := .f32) y (broadcastInDim S1x8x2048x2048 ![0, 1, 2, 3] bcast_S1x8x2048x1_S1x8x2048x2048_0_1_2_3 (broadcastInDim S1x8x2048x1 ![0, 1, 2] bcast_S1x8x2048_S1x8x2048x1_0_1_2
    (Host.reduceAdd (F := Ideal) (φ := .f32) y (constant (F := Ideal) S_ .f32 0x00000000#32) reducesTo_S1x8x2048x2048_S1x8x2048_d3 h_S_)))

theorem v38_eq : (res_main_v38 V0 : Vec Ideal S1x8x2048x2048 .f32) = quotients (shifted (res_main_v27 V0) (rowMax (res_main_v27 V0))) := rfl

theorem row_first (k : Fin 8) (n : Fin 2048) : reducesTo_S1x8x2048x2048_S1x8x2048_d3.drop (ix4 0 k n 0) = ix3 0 k n := by
  funext b
  fin_cases b <;> rfl

theorem greatest_real (x : Vec Ideal S1x8x2048x2048 .f32) (hx : ∀ i, IsReal (x i)) (k : Fin 8) (n : Fin 2048) (j : S1x8x2048x2048.Idx)
    (hj : reducesTo_S1x8x2048x2048_S1x8x2048_d3.drop j = ix3 0 k n) :
    IsReal (Host.reduce (FloatOps.maximumf (F := Ideal) (φ := .f32)) x (constant (F := Ideal) S_ .f32 0xFF800000#32) reducesTo_S1x8x2048x2048_S1x8x2048_d3 h_S_ (ix3 0 k n)) := by
  have h0 : (constant (F := Ideal) S_ .f32 0xFF800000#32 : Vec Ideal S_ .f32) (Shape.Idx.first h_S_) ≠ (⊤ : EReal) := by
    show Ideal.ofBits .f32 0xFF800000#32 ≠ ⊤
    rw [minus_infinity]
    exact bot_ne_top
  exact reduce_max_real x _ reducesTo_S1x8x2048x2048_S1x8x2048_d3 h_S_ _ h0 hx j hj

theorem maximumf_at {s : Shape} (a b : Vec Ideal s .f32) (i : s.Idx) : maximumf (F := Ideal) (φ := .f32) a b i = (max (a i : EReal) (b i : EReal) : EReal) := rfl

theorem rowMax_at (x : Vec Ideal S1x8x2048x2048 .f32) (i : S1x8x2048.Idx) (r : EReal)
    (h : (Host.reduce (FloatOps.maximumf (F := Ideal) (φ := .f32)) x (constant (F := Ideal) S_ .f32 0xFF800000#32) reducesTo_S1x8x2048x2048_S1x8x2048_d3 h_S_ : Vec Ideal S1x8x2048 .f32) i = r) :
    rowMax x i = max (Ideal.ofBits .f32 0xFF800000#32) r := by
  unfold rowMax
  rw [maximumf_at, h]
  rfl

/-- The greatest of a row of real numbers is a real number. -/
theorem rowMax_real (x : Vec Ideal S1x8x2048x2048 .f32) (hx : ∀ i, IsReal (x i)) (k : Fin 8) (n : Fin 2048) : IsReal (rowMax x (ix3 0 k n)) := by
  obtain ⟨r, hr⟩ := greatest_real x hx k n _ (row_first k n)
  exact ⟨r, by rw [rowMax_at x _ _ hr, minus_infinity, max_eq_right bot_le]⟩

theorem shifted_at (x : Vec Ideal S1x8x2048x2048 .f32) (b : Vec Ideal S1x8x2048 .f32) (k : Fin 8) (n j : Fin 2048) :
    shifted x b (ix4 0 k n j) = Ideal.exp (x (ix4 0 k n j) - b (ix3 0 k n)) := by
  pointwise [shifted]

theorem quotients_at (y : Vec Ideal S1x8x2048x2048 .f32) (k : Fin 8) (n j : Fin 2048) :
    quotients y (ix4 0 k n j) = Ideal.div (y (ix4 0 k n j)) (∑ x : Fin 2048, y (ix4 0 k n x)) := by
  pointwise [quotients]

/-- A row's greatest scaled product, as the reference takes it. -/
def rmax (k : Fin 8) (n : Fin 2048) : EReal := (rowMax (res_main_v27 V0 : Vec Ideal S1x8x2048x2048 .f32)) (ix3 0 k n)

/-- A scaled product. -/
def rlog (k : Fin 8) (n j : Fin 2048) : EReal := (res_main_v27 V0 : Vec Ideal S1x8x2048x2048 .f32) (ix4 0 k n j)

/-- The attention of the table's heads. -/
def ratt (k : Fin 8) (n j : Fin 2048) : EReal :=
  Ideal.div (Ideal.exp (rlog V0 k n j - rmax V0 k n)) (∑ x : Fin 2048, Ideal.exp (rlog V0 k n x - rmax V0 k n))

theorem v38_at (k : Fin 8) (n j : Fin 2048) : (res_main_v38 V0 : Vec Ideal S1x8x2048x2048 .f32) (ix4 0 k n j) = ratt V0 k n j := by
  rw [v38_eq, quotients_at]
  simp only [shifted_at]
  rfl

/-! ## The results -/

/-- The table's words, and the heads' mixed values that the scatters take. -/
def words : IVec S8x1 32 := broadcastInDim S8x1 ![0] bcast_S8_S8x1_0 (select (cmpi .slt (res_main_v17 V0) (broadcastInDim S8 ![] bcast_S_S8 (constantI S_ 32 0#32))) (addi (res_main_v17 V0) (broadcastInDim S8 ![] bcast_S_S8 (constantI S_ 32 16#32))) (res_main_v17 V0))

/-- The products of a head's attention and values, for any of both. -/
def mixOf (a : Vec Ideal S1x8x2048x2048 .f32) (v : Vec Ideal S1x8x2048x64 .f32) : Vec Ideal S1x8x2048x64 .f32 :=
  broadcastInDim S1x8x2048x64 ![1, 2, 3] bcast_S8x2048x64_S1x8x2048x64_1_2_3 (Host.dotGeneral (F := Ideal) (φ₁ := .f32) (φ₂ := .f32) dot_S8x2048x2048_S8x2048x64_S8x2048x64_2_1_1_2_0_0 none
    (shapeCast S8x2048x2048 a shapeCasts_S1x8x2048x2048_S8x2048x2048) (shapeCast S8x2048x64 v shapeCasts_S1x8x2048x64_S8x2048x64) : Vec Ideal S8x2048x64 .f32)

theorem mixOf_at (a : Vec Ideal S1x8x2048x2048 .f32) (v : Vec Ideal S1x8x2048x64 .f32) (k : Fin 8) (n : Fin 2048) (d : Fin 64) :
    mixOf a v (ix4 0 k n d) = ∑ j : Fin 2048, a (ix4 0 k n j) * v (ix4 0 k j d) := by
  pointwise [mixOf]

/-- A scatter's zeros. -/
def zeroY : Vec Ideal S1x16x2048x64 .f32 := broadcastInDim S1x16x2048x64 ![] bcast_S_S1x16x2048x64 (constant (F := Ideal) S_ .f32 0x00000000#32)
def zeroA : Vec Ideal S1x16x2048x2048 .f32 := broadcastInDim S1x16x2048x2048 ![] bcast_S_S1x16x2048x2048 (constant (F := Ideal) S_ .f32 0x00000000#32)

theorem zeroY_at (h : Fin 16) (n : Fin 2048) (d : Fin 64) : zeroY (ix4 0 h n d) = (0 : EReal) := by
  pointwise [zeroY]
theorem zeroA_at (h : Fin 16) (n j : Fin 2048) : zeroA (ix4 0 h n j) = (0 : EReal) := by
  pointwise [zeroA]

/-- The heads' mixed values, in their heads' places. -/
def spread : Vec Ideal S1x16x2048x64 .f32 :=
  Host.scatter scatter_S1x16x2048x64_S8x1_S1x8x2048x64_023_1_1_1 (fun _ b => b) zeroY (words V0) (mixOf (res_main_v38 V0) (taken (rvals V0) (res_main_call3_v5 V0)))

/-- The heads' attention, in their heads' places: the reference's second result. -/
def rattn : Vec Ideal S1x16x2048x2048 .f32 :=
  Host.scatter scatter_S1x16x2048x2048_S8x1_S1x8x2048x2048_023_1_1_1 (fun _ b => b) zeroA (words V0) (res_main_v38 V0)

/-- The output projection of any mixed values. -/
def projOf (y : Vec Ideal S1x16x2048x64 .f32) (w : Vec Ideal S1024x1024 .f32) (b : Vec Ideal S1024 .f32) : Vec Ideal S1x2048x1024 .f32 :=
  addf (F := Ideal) (φ := .f32) (Host.dotGeneral (F := Ideal) (φ₁ := .f32) (φ₂ := .f32) dot_S1x2048x1024_S1024x1024_S1x2048x1024_2_0_01_1_n_n none
      (shapeCast S1x2048x1024 (transpose S1x2048x16x64 [0, 2, 1, 3] y transposes_S1x16x2048x64_S1x2048x16x64_0_2_1_3) shapeCasts_S1x2048x16x64_S1x2048x1024)
      (transpose S1024x1024 [1, 0] w transposes_S1024x1024_S1024x1024_1_0) : Vec Ideal S1x2048x1024 .f32)
    (broadcastInDim S1x2048x1024 ![0, 1, 2] bcast_S1x1x1024_S1x2048x1024_0_1_2 (broadcastInDim S1x1x1024 ![2] bcast_S1024_S1x1x1024_2 b))

theorem projOf_at (y : Vec Ideal S1x16x2048x64 .f32) (w : Vec Ideal S1024x1024 .f32) (b : Vec Ideal S1024 .f32) (n : Fin 2048) (e : Fin 1024) :
    projOf y w b (ix3 0 n e) = (∑ i : Fin 1024, y (ix4 0 ⟨i.val / 64, by omega⟩ n ⟨i.val % 64, by omega⟩) * w (ix2 e i)) + b (ix1 e) := by
  pointwise [projOf]

/-- The reference's first result. -/
def rout : Vec Ideal S1x2048x1024 .f32 := projOf (spread V0) (V0 (Proc.devRef .tc main_arg3)) (V0 (Proc.devRef .tc main_arg4))

theorem rout_at (n : Fin 2048) (e : Fin 1024) : rout V0 (ix3 0 n e)
    = (∑ i : Fin 1024, spread V0 (ix4 0 ⟨i.val / 64, by omega⟩ n ⟨i.val % 64, by omega⟩) * ap V0 e i) + ac V0 e :=
  projOf_at _ _ _ n e

section chosen'
variable (hd : Fin 8 → Fin 16) (hinj : Function.Injective hd) (ht : ∀ k : Fin 8, (res_main_v17 V0 : IVec S8 32) (ix1 k) = BitVec.ofNat 32 (hd k).val)
include ht

theorem words_at (k : Fin 8) : words V0 (ix2 k 0) = BitVec.ofNat 32 (hd k).val := index_at hd _ ht k

theorem spread_miss (h : Fin 16) (hh : ¬ ∃ k, hd k = h) (n : Fin 2048) (d : Fin 64) : spread V0 (ix4 0 h n d) = (0 : EReal) := by
  unfold spread
  rw [scatter_y_miss _ _ hd (words_at V0 hd ht) _ h hh n d]
  exact zeroY_at h n d

theorem rattn_miss (h : Fin 16) (hh : ¬ ∃ k, hd k = h) (n j : Fin 2048) : rattn V0 (ix4 0 h n j) = (0 : EReal) := by
  unfold rattn
  rw [scatter_a_miss _ _ hd (words_at V0 hd ht) _ h hh n j]
  exact zeroA_at h n j

include hinj

theorem spread_hit (k : Fin 8) (n : Fin 2048) (d : Fin 64) : spread V0 (ix4 0 (hd k) n d) = ∑ j : Fin 2048, ratt V0 k n j * rproj V0 (vrow (hd k) d) j := by
  unfold spread
  rw [scatter_y_hit _ _ hd hinj (words_at V0 hd ht) _ k n d, mixOf_at]
  have hv : ∀ j, taken (rvals V0) (res_main_call3_v5 V0) (ix4 0 k j d) = rproj V0 (vrow (hd k) d) j := fun j =>
    (taken_at hd _ _ (call3_at V0 hd ht) k j d).trans (values_at V0 (hd k) j d)
  simp only [hv, v38_at]

theorem rattn_hit (k : Fin 8) (n j : Fin 2048) : rattn V0 (ix4 0 (hd k) n j) = ratt V0 k n j := by
  unfold rattn
  rw [scatter_a_hit _ _ hd hinj (words_at V0 hd ht) _ k n j]
  exact v38_at V0 k n j

end chosen'

/-- What the reference's run leaves, by these names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = rout (launchContents m c)
      ∧ r.2.mem ((c.tc : Thread nD τ).loc main_v65) = rattn (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Cert.Proof.Ref

end
-- ==== Proof.Equal.lean ====
/- The kernel's and the reference's results, equal at every element, where the projections are real numbers. -/
module

public import proofs.«01_k».proof.Proof.RefRes

@[expose] public section

set_option maxRecDepth 16384

noncomputable section

namespace Cert.Proof.Ref

open Idealize.ShloMosaic Idealize.SL.Sem
open Cert.ReferenceIdeal Cert.ReferenceIdeal.Gen Cert.ReferenceIdeal.Value
open Cert.Proof.Qkv

variable (V0 : Valuation τ sig (Elt Ideal))

/-- The mask the kernel makes of its own scores. -/
def ownMask (P : Fin 3072 → Fin 2048 → EReal) (h : Fin 16) : BitVec 32 := if rank (score P) h < 8 then 1#32 else 0#32

theorem ownMask_ne (P : Fin 3072 → Fin 2048 → EReal) (h : Fin 16) : ownMask P h ≠ 0#32 ↔ rank (score P) h < 8 := by
  unfold ownMask
  split <;> simp_all

/-- Both programs' scores put the heads in one order. -/
theorem same_rank (hP : ∀ r n, IsReal (rproj V0 r n)) (h : Fin 16) :
    rank (score (rproj V0)) h = rank (fun x => (res_main_v16 V0 : Vec Ideal S16 .f32) (ix1 x)) h := by
  refine rank_mono _ _ (fun x y => ?_) h
  have hs : ∀ x, (res_main_v16 V0 : Vec Ideal S16 .f32) (ix1 x) = Ideal.div (score (rproj V0) x) ((131072 : ℝ) : EReal) := fun x => by
    rw [v16_at, elements, score, Finset.sum_comm]
  have hr : ∀ x, IsReal (score (rproj V0) x) := fun x =>
    IsReal.sum _ _ fun d => IsReal.sum _ _ fun n => (hP _ _).mul (hP _ _)
  obtain ⟨a, ha⟩ := hr x
  obtain ⟨b, hb⟩ := hr y
  simp only [hs, ha, hb]
  exact div_order a b 131072 (by norm_num)

/-- The heads in the reference's table, and what its arrays then hold. -/
theorem table : ∃ hd : Fin 8 → Fin 16, Function.Injective hd
    ∧ (∀ h, (∃ k, hd k = h) ↔ rank (fun x => (res_main_v16 V0 : Vec Ideal S16 .f32) (ix1 x)) h < 8)
    ∧ ∀ k : Fin 8, (res_main_v17 V0 : IVec S8 32) (ix1 k) = BitVec.ofNat 32 (hd k).val :=
  table_spec (res_main_v16 V0)

section chosen
variable (hd : Fin 8 → Fin 16) (ht : ∀ k : Fin 8, (res_main_v17 V0 : IVec S8 32) (ix1 k) = BitVec.ofNat 32 (hd k).val)
  (hP : ∀ r n, IsReal (rproj V0 r n))
include ht hP

theorem logit_real (k : Fin 8) (n j : Fin 2048) : IsReal (rlog V0 k n j) := by
  unfold rlog
  rw [v27_at V0 hd ht, eighth]
  exact (IsReal.sum _ _ fun d => (hP _ _).mul (hP _ _)).mul ⟨_, rfl⟩

theorem rmax_real (k : Fin 8) (n : Fin 2048) : IsReal (rmax V0 k n) := by
  refine rowMax_real _ (fun i => ?_) k n
  idx_vars i
  obtain rfl : i0 = 0 := Subsingleton.elim _ _
  exact logit_real V0 hd ht hP i1 i2 i3

omit hP in
theorem ex_eq (k : Fin 8) (n j : Fin 2048) : ex (rproj V0) (hd k) n j = Ideal.exp (rlog V0 k n j) := by
  unfold rlog
  rw [v27_at V0 hd ht]
  rfl

theorem att_eq (k : Fin 8) (n j : Fin 2048) : ratt V0 k n j = ex (rproj V0) (hd k) n j * Qkv.inv (rproj V0) (hd k) n := by
  unfold ratt Qkv.inv
  simp only [ex_eq V0 hd ht]
  obtain ⟨m, hm⟩ := rmax_real V0 hd ht hP k n
  choose l hl using logit_real V0 hd ht hP k n
  simp only [hm, hl]
  exact softmax_shift l m j

theorem mix_eq (k : Fin 8) (n : Fin 2048) (d : Fin 64) :
    (∑ j : Fin 2048, ratt V0 k n j * rproj V0 (vrow (hd k) d) j) = mix (rproj V0) (hd k) n d := by
  simp only [att_eq V0 hd ht hP]
  unfold mix Qkv.inv
  simp only [ex_eq V0 hd ht]
  choose l hl using logit_real V0 hd ht hP k n
  choose v hv using hP (vrow (hd k) d)
  simp only [hl, hv]
  exact softmax_mix l v

end chosen

variable (hP : ∀ r n, IsReal (rproj V0 r n))
include hP

/-- The second result: the attention. -/
theorem attn_same (h : Fin 16) (n j : Fin 2048) : attnVal (ownMask (rproj V0)) (rproj V0) h n j = rattn V0 (ix4 0 h n j) := by
  obtain ⟨hd, hinj, hsel, ht⟩ := table V0
  unfold attnVal
  simp only [ownMask_ne, same_rank V0 hP, ← hsel]
  by_cases hh : ∃ k, hd k = h
  · rw [if_pos hh]
    obtain ⟨k, rfl⟩ := hh
    rw [rattn_hit V0 hd hinj ht, att_eq V0 hd ht hP]
  · rw [if_neg hh, rattn_miss V0 hd ht h hh]

theorem spread_same (h : Fin 16) (n : Fin 2048) (d : Fin 64) :
    spread V0 (ix4 0 h n d) = if ownMask (rproj V0) h ≠ 0#32 then mix (rproj V0) h n d else 0 := by
  obtain ⟨hd, hinj, hsel, ht⟩ := table V0
  simp only [ownMask_ne, same_rank V0 hP, ← hsel]
  by_cases hh : ∃ k, hd k = h
  · rw [if_pos hh]
    obtain ⟨k, rfl⟩ := hh
    rw [spread_hit V0 hd hinj ht, mix_eq V0 hd ht hP]
  · rw [if_neg hh, spread_miss V0 hd ht h hh]

omit hP in
/-- A sum over the rows of the output projection, head by head. -/
theorem sum_rows (f : Fin 16 → Fin 64 → EReal) (g : Fin 1024 → EReal) :
    (∑ i : Fin 1024, f ⟨i.val / 64, by omega⟩ ⟨i.val % 64, by omega⟩ * g i) = ∑ h : Fin 16, ∑ d : Fin 64, f h d * g (wrow h d) := by
  rw [← Fintype.sum_prod_type']
  symm
  refine Fintype.sum_equiv (finProdFinEquiv (m := 16) (n := 64)) _ _ fun p => ?_
  obtain ⟨h, d⟩ := p
  have e : (finProdFinEquiv (h, d) : Fin (16 * 64)) = (wrow h d : Fin 1024) := Fin.ext (by
    show d.val + 64 * h.val = h.val * 64 + d.val
    omega)
  rw [e]
  congr 2
  · exact Fin.ext (by simp [wrow]; omega)
  · exact Fin.ext (by simp [wrow]; omega)

/-- The first result: the output. -/
theorem out_same (n : Fin 2048) (e : Fin 1024) :
    ac V0 e + ∑ h : Fin 16, part (ownMask (rproj V0)) (rproj V0) (fun r e => ap V0 e r) n e h = rout V0 (ix3 0 n e) := by
  rw [rout_at, sum_rows (fun h d => spread V0 (ix4 0 h n d)) (ap V0 e), add_comm]
  refine congrArg (· + ac V0 e) (Finset.sum_congr rfl fun h _ => ?_)
  simp only [spread_same V0 hP]
  unfold part
  by_cases hh : ownMask (rproj V0) h ≠ 0#32
  · simp only [if_pos hh]
  · simp only [if_neg hh, zero_mul, Finset.sum_const_zero]

omit hP in
/-- Real arguments have real projections. -/
theorem proj_real (h0 : ∀ n k, IsReal (ax V0 n k)) (h1 : ∀ r k, IsReal (aw V0 r k)) (h2 : ∀ r, IsReal (ab V0 r)) (r : Fin 3072) (n : Fin 2048) : IsReal (rproj V0 r n) :=
  (IsReal.sum _ _ fun k => (h0 n k).mul (h1 r k)).add (h2 r)

end Cert.Proof.Ref

end
-- ==== Proof.Algebraic.lean ====
/- The value claim: the kernel's two results are the reference's, for finite inputs. -/
module

public import proofs.«01_k».proof.Defs
public import proofs.«01_k».proof.Proof.Chain
public import proofs.«01_k».proof.Proof.Equal
public import proofs.«01_k».proof.Proof.Gen.Pre_finite

@[expose] public section

set_option maxRecDepth 16384

noncomputable section

namespace Cert.Proof

open Idealize.ShloMosaic Idealize.ShloMosaic.TcCoe Idealize.SL.Sem Idealize.ShloMosaic.StableHlo
open Cert.Proof.Qkv Cert.Proof.Ref

section same
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include e0 e1 e2 in
/-- Equal arguments have equal projections. -/
theorem same_proj : rproj (launchContents m' c) = kproj m c := by
  have h0 : ∀ n k, ax (launchContents m' c) n k = mx m c n k := fun n k => congrArg (fun v : Vec Ideal Cert.KernelIdeal.S1x2048x1024 .f32 => v (ix3 0 n k)) e0
  have h1 : ∀ r k, aw (launchContents m' c) r k = mw m c r k := fun r k => congrArg (fun v : Vec Ideal Cert.KernelIdeal.S3072x1024 .f32 => v (ix2 r k)) e1
  have h2 : ∀ r, ab (launchContents m' c) r = mb m c r := fun r => congrArg (fun v : Vec Ideal Cert.KernelIdeal.S3072 .f32 => v (ix1 r)) e2
  funext r n
  unfold rproj kproj
  simp only [h0, h1, h2]

variable (hp : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) = fun _ => 1#1)

include hp in
/-- The projections of finite inputs are real numbers. -/
theorem kproj_real (r : Fin 3072) (n : Fin 2048) : IsReal (kproj m c r n) := by
  obtain ⟨h0, h1, h2⟩ := pre_real _ _ _ _ _ hp
  exact (IsReal.sum _ _ fun k => (h0 (ix3 0 n k)).mul (h1 (ix2 r k))).add (h2 (ix1 r))

include e0 e1 e2 hp in
theorem rproj_real (r : Fin 3072) (n : Fin 2048) : IsReal (rproj (launchContents m' c) r n) := by
  rw [same_proj m m' c e0 e1 e2]
  exact kproj_real m c hp r n

include e0 e1 e2 hp in
/-- The second results are equal, -/
theorem same_attn : rattn (launchContents m' c) = (W6 m c Cert.KernelIdeal.main_v6_0 : Vec Ideal Cert.KernelIdeal.S1x16x2048x2048 .f32) := by
  funext i
  idx_vars i
  obtain rfl : i0 = 0 := Subsingleton.elim _ _
  refine (attn_same (launchContents m' c) (rproj_real m m' c e0 e1 e2 hp) i1 i2 i3).symm.trans ?_
  rw [same_proj m m' c e0 e1 e2]
  exact (attn_result m c i1 i2 i3).symm

include e0 e1 e2 e3 e4 hp in
/-- and the first. -/
theorem same_out : rout (launchContents m' c) = (W6 m c Cert.KernelIdeal.main_v7 : Vec Ideal Cert.KernelIdeal.S1x2048x1024 .f32) := by
  have h3 : (fun r e => ap (launchContents m' c) e r) = fun r e => mp m c e r :=
    funext fun r => funext fun e => congrArg (fun v : Vec Ideal Cert.KernelIdeal.S1024x1024 .f32 => v (ix2 e r)) e3
  have h4 : ∀ e, ac (launchContents m' c) e = mc m c e := fun e => congrArg (fun v : Vec Ideal Cert.KernelIdeal.S1024 .f32 => v (ix1 e)) e4
  funext i
  idx_vars i
  obtain rfl : i0 = 0 := Subsingleton.elim _ _
  refine (out_same (launchContents m' c) (rproj_real m m' c e0 e1 e2 hp) i1 i2).symm.trans ?_
  rw [same_proj m m' c e0 e1 e2, h3, h4]
  exact (out_result m c i1 i2).symm

end same

/-- The two programs' results are equal in exact arithmetic, for finite inputs. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => W6 m c Cert.KernelIdeal.main_v7, fun c => W6 m c Cert.KernelIdeal.main_v6_0, ?_, ?_⟩
  · exact (θ_run Cert.KernelIdeal.defs _ _).mono (fun _ h c =>
      ⟨h.1 c Cert.KernelIdeal.main_v7 rfl, h.1 c Cert.KernelIdeal.main_v6_0 rfl,
       (h.1 c Cert.KernelIdeal.main_arg0 rfl).trans (W6_arg m c Cert.KernelIdeal.main_arg0 (by decide) (by decide) (by decide) (by decide)),
       (h.1 c Cert.KernelIdeal.main_arg1 rfl).trans (W6_arg m c Cert.KernelIdeal.main_arg1 (by decide) (by decide) (by decide) (by decide)),
       (h.1 c Cert.KernelIdeal.main_arg2 rfl).trans (W6_arg m c Cert.KernelIdeal.main_arg2 (by decide) (by decide) (by decide) (by decide)),
       (h.1 c Cert.KernelIdeal.main_arg3 rfl).trans (W6_arg m c Cert.KernelIdeal.main_arg3 (by decide) (by decide) (by decide) (by decide)),
       (h.1 c Cert.KernelIdeal.main_arg4 rfl).trans (W6_arg m c Cert.KernelIdeal.main_arg4 (by decide) (by decide) (by decide) (by decide))⟩)
      (run_main m g)
  · refine (θ_run Cert.ReferenceIdeal.defs _ _).mono (fun _ h c => ?_) (run_named m' g')
    obtain ⟨e0, e1, e2, e3, e4⟩ := hargs c
    exact ⟨(h c).1.trans (same_out m m' c e0 e1 e2 e3 e4 (hpre c)), (h c).2.1.trans (same_attn m m' c e0 e1 e2 (hpre c)), (h c).2.2⟩

/-- The frames again, under the precondition. -/
theorem frame_ideal_finite : Cert.quiescent_KernelIdeal_pre_finite (hKernelIdeal := Cert.KernelIdeal.Gen.facts) (hPre_finite := Cert.Pre_finite.Gen.facts) :=
  fun m g _ => Qkv.run_frame m g

theorem frame_reference_finite : Cert.quiescent_ReferenceIdeal_pre_finite (hReferenceIdeal := Cert.ReferenceIdeal.Gen.facts) (hPre_finite := Cert.Pre_finite.Gen.facts) :=
  fun m g _ => frame_reference m g trivial

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    frame_kernel, frame_ideal, frame_ideal_finite, frame_reference, frame_reference_finite, trivial, algebraic⟩

end Cert.Proof

end
